-- ==== Defs.lean ====
def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModKernelIdeal_mod_finite [hPre_mod_finite : Cert.Pre_mod_finite.Facts] (m : (ℓ : Loc Cert.ModKernelIdeal.nD Cert.ModKernelIdeal.τ Cert.ModKernelIdeal.sig) → Buf (Elt Ideal) ℓ) : Prop :=
  ∀ c : Dev Cert.ModKernelIdeal.nD,
    (Cert.Pre_mod_finite.fn (F := Ideal) (m ((c.tc : Thread Cert.ModKernelIdeal.nD Cert.ModKernelIdeal.τ).loc Cert.ModKernelIdeal.main_arg0)) (m ((c.tc : Thread Cert.ModKernelIdeal.nD Cert.ModKernelIdeal.τ).loc Cert.ModKernelIdeal.main_arg1)) (m ((c.tc : Thread Cert.ModKernelIdeal.nD Cert.ModKernelIdeal.τ).loc Cert.ModKernelIdeal.main_arg2))).1 = (fun _ => 1#1)
    ∧ (Cert.Pre_mod_finite.fn (F := Ideal) (m ((c.tc : Thread Cert.ModKernelIdeal.nD Cert.ModKernelIdeal.τ).loc Cert.ModKernelIdeal.main_arg0)) (m ((c.tc : Thread Cert.ModKernelIdeal.nD Cert.ModKernelIdeal.τ).loc Cert.ModKernelIdeal.main_arg1)) (m ((c.tc : Thread Cert.ModKernelIdeal.nD Cert.ModKernelIdeal.τ).loc Cert.ModKernelIdeal.main_arg2))).2 = (fun _ => 1#1)

def Pre_ModReferenceIdeal (m : (ℓ : Loc Cert.ModReferenceIdeal.nD Cert.ModReferenceIdeal.τ Cert.ModReferenceIdeal.sig) → Buf (Elt Ideal) ℓ) : Prop :=
  True

def Pre_ModReferenceIdeal_mod_finite [hPre_mod_finite : Cert.Pre_mod_finite.Facts] (m : (ℓ : Loc Cert.ModReferenceIdeal.nD Cert.ModReferenceIdeal.τ Cert.ModReferenceIdeal.sig) → Buf (Elt Ideal) ℓ) : Prop :=
  ∀ c : Dev Cert.ModReferenceIdeal.nD,
    (Cert.Pre_mod_finite.fn (F := Ideal) (m ((c.tc : Thread Cert.ModReferenceIdeal.nD Cert.ModReferenceIdeal.τ).loc Cert.ModReferenceIdeal.main_arg0)) (m ((c.tc : Thread Cert.ModReferenceIdeal.nD Cert.ModReferenceIdeal.τ).loc Cert.ModReferenceIdeal.main_arg1)) (m ((c.tc : Thread Cert.ModReferenceIdeal.nD Cert.ModReferenceIdeal.τ).loc Cert.ModReferenceIdeal.main_arg2))).1 = (fun _ => 1#1)
    ∧ (Cert.Pre_mod_finite.fn (F := Ideal) (m ((c.tc : Thread Cert.ModReferenceIdeal.nD Cert.ModReferenceIdeal.τ).loc Cert.ModReferenceIdeal.main_arg0)) (m ((c.tc : Thread Cert.ModReferenceIdeal.nD Cert.ModReferenceIdeal.τ).loc Cert.ModReferenceIdeal.main_arg1)) (m ((c.tc : Thread Cert.ModReferenceIdeal.nD Cert.ModReferenceIdeal.τ).loc Cert.ModReferenceIdeal.main_arg2))).2 = (fun _ => 1#1)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2)
      ∧ r.2.mem ((c.tc : Thread Cert.PrepKernel.nD Cert.PrepKernel.τ).loc Cert.PrepKernel.main_arg3) = m ((c.tc : Thread Cert.PrepKernel.nD Cert.PrepKernel.τ).loc Cert.PrepKernel.main_arg3)
      ∧ r.2.mem ((c.tc : Thread Cert.PrepKernel.nD Cert.PrepKernel.τ).loc Cert.PrepKernel.main_arg4) = m ((c.tc : Thread Cert.PrepKernel.nD Cert.PrepKernel.τ).loc Cert.PrepKernel.main_arg4)
      ∧ r.2.mem ((c.tc : Thread Cert.PrepKernel.nD Cert.PrepKernel.τ).loc Cert.PrepKernel.main_arg5) = m ((c.tc : Thread Cert.PrepKernel.nD Cert.PrepKernel.τ).loc Cert.PrepKernel.main_arg5))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ r.2.sem = fun _ => 0)

def quiescent_ModKernelIdeal_pre_mod_finite [hModKernelIdeal : Cert.ModKernelIdeal.Facts] [hPre_mod_finite : Cert.Pre_mod_finite.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal_mod_finite m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_ModReferenceIdeal_pre_mod_finite [hModReferenceIdeal : Cert.ModReferenceIdeal.Facts] [hPre_mod_finite : Cert.Pre_mod_finite.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal_mod_finite m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)) →
    ∃ (v0 : (c : Dev Cert.OutKernelIdeal.nD) → Buf (Elt Ideal) ((c.tc : Thread Cert.OutKernelIdeal.nD Cert.OutKernelIdeal.τ).loc Cert.OutKernelIdeal.main_v2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v24) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)) →
    ∃ (v0 : (c : Dev Cert.InKernelIdeal.nD) → Buf (Elt Ideal) ((c.tc : Thread Cert.InKernelIdeal.nD Cert.InKernelIdeal.τ).loc Cert.InKernelIdeal.main_v1_0)) (v1 : (c : Dev Cert.InKernelIdeal.nD) → Buf (Elt Ideal) ((c.tc : Thread Cert.InKernelIdeal.nD Cert.InKernelIdeal.τ).loc Cert.InKernelIdeal.main_v1_1)) (v2 : (c : Dev Cert.InKernelIdeal.nD) → Buf (Elt Ideal) ((c.tc : Thread Cert.InKernelIdeal.nD Cert.InKernelIdeal.τ).loc Cert.InKernelIdeal.main_v1_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v1_0) = v0 c
          ∧ r.2.mem ((c.tc : Thread Cert.InKernelIdeal.nD Cert.InKernelIdeal.τ).loc Cert.InKernelIdeal.main_v1_1) = v1 c
          ∧ r.2.mem ((c.tc : Thread Cert.InKernelIdeal.nD Cert.InKernelIdeal.τ).loc Cert.InKernelIdeal.main_v1_2) = v2 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v30) = v0 c
          ∧ r.2.mem ((c.tc : Thread Cert.InReferenceIdeal.nD Cert.InReferenceIdeal.τ).loc Cert.InReferenceIdeal.main_v31) = v1 c
          ∧ r.2.mem ((c.tc : Thread Cert.InReferenceIdeal.nD Cert.InReferenceIdeal.τ).loc Cert.InReferenceIdeal.main_v33) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3))

def preserves_PrepKernel_PrepKernelIdeal : Prop :=
  True

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)
      ∧ m' ((c.tc : Thread Cert.PrepReferenceIdeal.nD Cert.PrepReferenceIdeal.τ).loc Cert.PrepReferenceIdeal.main_arg3) = m ((c.tc : Thread Cert.PrepKernelIdeal.nD Cert.PrepKernelIdeal.τ).loc Cert.PrepKernelIdeal.main_arg3)
      ∧ m' ((c.tc : Thread Cert.PrepReferenceIdeal.nD Cert.PrepReferenceIdeal.τ).loc Cert.PrepReferenceIdeal.main_arg4) = m ((c.tc : Thread Cert.PrepKernelIdeal.nD Cert.PrepKernelIdeal.τ).loc Cert.PrepKernelIdeal.main_arg4)
      ∧ m' ((c.tc : Thread Cert.PrepReferenceIdeal.nD Cert.PrepReferenceIdeal.τ).loc Cert.PrepReferenceIdeal.main_arg5) = m ((c.tc : Thread Cert.PrepKernelIdeal.nD Cert.PrepKernelIdeal.τ).loc Cert.PrepKernelIdeal.main_arg5)) →
    ∃ (v0 : (c : Dev Cert.PrepKernelIdeal.nD) → Buf (Elt Ideal) ((c.tc : Thread Cert.PrepKernelIdeal.nD Cert.PrepKernelIdeal.τ).loc Cert.PrepKernelIdeal.main_v66_0)) (v1 : (c : Dev Cert.PrepKernelIdeal.nD) → Buf (Elt Ideal) ((c.tc : Thread Cert.PrepKernelIdeal.nD Cert.PrepKernelIdeal.τ).loc Cert.PrepKernelIdeal.main_v66_1)) (v2 : (c : Dev Cert.PrepKernelIdeal.nD) → Buf (Elt Ideal) ((c.tc : Thread Cert.PrepKernelIdeal.nD Cert.PrepKernelIdeal.τ).loc Cert.PrepKernelIdeal.main_v66_2)) (v3 : (c : Dev Cert.PrepKernelIdeal.nD) → Buf (Elt Ideal) ((c.tc : Thread Cert.PrepKernelIdeal.nD Cert.PrepKernelIdeal.τ).loc Cert.PrepKernelIdeal.main_v66_3)) (v4 : (c : Dev Cert.PrepKernelIdeal.nD) → Buf (Elt Ideal) ((c.tc : Thread Cert.PrepKernelIdeal.nD Cert.PrepKernelIdeal.τ).loc Cert.PrepKernelIdeal.main_v66_4)) (v5 : (c : Dev Cert.PrepKernelIdeal.nD) → Buf (Elt Ideal) ((c.tc : Thread Cert.PrepKernelIdeal.nD Cert.PrepKernelIdeal.τ).loc Cert.PrepKernelIdeal.main_v66_5)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v66_0) = v0 c
          ∧ r.2.mem ((c.tc : Thread Cert.PrepKernelIdeal.nD Cert.PrepKernelIdeal.τ).loc Cert.PrepKernelIdeal.main_v66_1) = v1 c
          ∧ r.2.mem ((c.tc : Thread Cert.PrepKernelIdeal.nD Cert.PrepKernelIdeal.τ).loc Cert.PrepKernelIdeal.main_v66_2) = v2 c
          ∧ r.2.mem ((c.tc : Thread Cert.PrepKernelIdeal.nD Cert.PrepKernelIdeal.τ).loc Cert.PrepKernelIdeal.main_v66_3) = v3 c
          ∧ r.2.mem ((c.tc : Thread Cert.PrepKernelIdeal.nD Cert.PrepKernelIdeal.τ).loc Cert.PrepKernelIdeal.main_v66_4) = v4 c
          ∧ r.2.mem ((c.tc : Thread Cert.PrepKernelIdeal.nD Cert.PrepKernelIdeal.τ).loc Cert.PrepKernelIdeal.main_v66_5) = v5 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
          ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
          ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
          ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v189) = v0 c
          ∧ r.2.mem ((c.tc : Thread Cert.PrepReferenceIdeal.nD Cert.PrepReferenceIdeal.τ).loc Cert.PrepReferenceIdeal.main_v193) = v1 c
          ∧ r.2.mem ((c.tc : Thread Cert.PrepReferenceIdeal.nD Cert.PrepReferenceIdeal.τ).loc Cert.PrepReferenceIdeal.main_v195) = v2 c
          ∧ r.2.mem ((c.tc : Thread Cert.PrepReferenceIdeal.nD Cert.PrepReferenceIdeal.τ).loc Cert.PrepReferenceIdeal.main_v197) = v3 c
          ∧ r.2.mem ((c.tc : Thread Cert.PrepReferenceIdeal.nD Cert.PrepReferenceIdeal.τ).loc Cert.PrepReferenceIdeal.main_v199) = v4 c
          ∧ r.2.mem ((c.tc : Thread Cert.PrepReferenceIdeal.nD Cert.PrepReferenceIdeal.τ).loc Cert.PrepReferenceIdeal.main_v202) = v5 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5))

def preserves_ModKernel_ModKernelIdeal : Prop :=
  True

def algebraic_ModKernelIdeal_ModReferenceIdeal_pre_mod_finite [hModKernelIdeal : Cert.ModKernelIdeal.Facts] [hModReferenceIdeal : Cert.ModReferenceIdeal.Facts] [hPre_mod_finite : Cert.Pre_mod_finite.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal_mod_finite m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)) →
    ∃ (v0 : (c : Dev Cert.ModKernelIdeal.nD) → Buf (Elt Ideal) ((c.tc : Thread Cert.ModKernelIdeal.nD Cert.ModKernelIdeal.τ).loc Cert.ModKernelIdeal.main_v1)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v1) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v4) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def Claim : Prop :=
  ∃ (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts) (hPrepKernel : Cert.PrepKernel.Facts) (hPrepKernelIdeal : Cert.PrepKernelIdeal.Facts) (hPrepReferenceIdeal : Cert.PrepReferenceIdeal.Facts) (hModKernel : Cert.ModKernel.Facts) (hModKernelIdeal : Cert.ModKernelIdeal.Facts) (hModReferenceIdeal : Cert.ModReferenceIdeal.Facts) (hPre_mod_finite : Cert.Pre_mod_finite.Facts),
    quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ quiescent_ModKernel (hModKernel := hModKernel)
    ∧ quiescent_ModKernelIdeal (hModKernelIdeal := hModKernelIdeal)
    ∧ quiescent_ModKernelIdeal_pre_mod_finite (hModKernelIdeal := hModKernelIdeal) (hPre_mod_finite := hPre_mod_finite)
    ∧ quiescent_ModReferenceIdeal (hModReferenceIdeal := hModReferenceIdeal)
    ∧ quiescent_ModReferenceIdeal_pre_mod_finite (hModReferenceIdeal := hModReferenceIdeal) (hPre_mod_finite := hPre_mod_finite)
    ∧ preserves_OutKernel_OutKernelIdeal
    ∧ algebraic_OutKernelIdeal_OutReferenceIdeal (hOutKernelIdeal := hOutKernelIdeal) (hOutReferenceIdeal := hOutReferenceIdeal)
    ∧ preserves_InKernel_InKernelIdeal
    ∧ algebraic_InKernelIdeal_InReferenceIdeal (hInKernelIdeal := hInKernelIdeal) (hInReferenceIdeal := hInReferenceIdeal)
    ∧ preserves_PrepKernel_PrepKernelIdeal
    ∧ algebraic_PrepKernelIdeal_PrepReferenceIdeal (hPrepKernelIdeal := hPrepKernelIdeal) (hPrepReferenceIdeal := hPrepReferenceIdeal)
    ∧ preserves_ModKernel_ModKernelIdeal
    ∧ algebraic_ModKernelIdeal_ModReferenceIdeal_pre_mod_finite (hModKernelIdeal := hModKernelIdeal) (hModReferenceIdeal := hModReferenceIdeal) (hPre_mod_finite := hPre_mod_finite)
-- ==== Pre_mod_finite.lean ====
abbrev S16x2048 : Shape := ⟨2, ![16, 2048]⟩
abbrev S2048x6144 : Shape := ⟨2, ![2048, 6144]⟩
abbrev S6144 : Shape := ⟨1, ![6144]⟩
abbrev S_ : Shape := ⟨0, ![]⟩

class Facts : Prop where
  bcast_S_S16x2048 : S_.BroadcastsInDim S16x2048 (![] : Fin 0 → Fin S16x2048.rank)
  bcast_S_S2048x6144 : S_.BroadcastsInDim S2048x6144 (![] : Fin 0 → Fin S2048x6144.rank)

variable [Facts]

def fn {F : FTy → Type} [FloatOps F] (main_arg0 : FVec F S16x2048 .f32) (main_arg1 : FVec F S2048x6144 .f32) (main_arg2 : FVec F S6144 .f32) : IVec S16x2048 1 × IVec S2048x6144 1 :=
  let main_v0 : FVec F S16x2048 .f32 := Host.absf main_arg0
  let main_cst : FVec F S_ .f32 := constant S_ .f32 0x7F800000#32
  let main_v1 : FVec F S16x2048 .f32 := broadcastInDim S16x2048 ![] bcast_S_S16x2048 main_cst
  let main_v2 : IVec S16x2048 1 := cmpf .olt main_v0 main_v1
  let main_v3 : FVec F S2048x6144 .f32 := Host.absf main_arg1
  let main_cst_0 : FVec F S_ .f32 := constant S_ .f32 0x7F800000#32
  let main_v4 : FVec F S2048x6144 .f32 := broadcastInDim S2048x6144 ![] bcast_S_S2048x6144 main_cst_0
  let main_v5 : IVec S2048x6144 1 := cmpf .olt main_v3 main_v4
  (main_v2, main_v5)
-- ==== OutKernel.lean ====
abbrev S16384x1024 : Shape := ⟨2, ![16384, 1024]⟩
abbrev S2048x2048 : Shape := ⟨2, ![2048, 2048]⟩
abbrev S16384x2048 : Shape := ⟨2, ![16384, 2048]⟩
abbrev S4x3x2048 : Shape := ⟨3, ![4, 3, 2048]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S1x3x2048 : Shape := ⟨3, ![1, 3, 2048]⟩
abbrev S1024x2048 : Shape := ⟨2, ![1024, 2048]⟩
abbrev S512 : Shape := ⟨1, ![512]⟩
abbrev S512x1 : Shape := ⟨2, ![512, 1]⟩
abbrev S1x1x2048 : Shape := ⟨3, ![1, 1, 2048]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S4x3x2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x3x2048, .f32⟩
  | .local _ .vmem, ⟨8, _⟩ => ⟨S1x3x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutReferenceIdeal.lean ====
abbrev S16384x1024 : Shape := ⟨2, ![16384, 1024]⟩
abbrev S2048x2048 : Shape := ⟨2, ![2048, 2048]⟩
abbrev S16384x2048 : Shape := ⟨2, ![16384, 2048]⟩
abbrev S4x3x2048 : Shape := ⟨3, ![4, 3, 2048]⟩
abbrev S2048 : Shape := ⟨1, ![2048]⟩
abbrev S4x4096x2048 : Shape := ⟨3, ![4, 4096, 2048]⟩
abbrev S4x1x2048 : Shape := ⟨3, ![4, 1, 2048]⟩
abbrev S4x2048 : Shape := ⟨2, ![4, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S4x3x2048, .f32⟩
  | .hbm, ⟨5, _⟩ => ⟨S2048, .f32⟩
  | .hbm, ⟨6, _⟩ => ⟨S16384x2048, .bf16⟩
  | .hbm, ⟨7, _⟩ => ⟨S16384x2048, .f32⟩
  | .hbm, ⟨8, _⟩ => ⟨S16384x2048, .f32⟩
  | .hbm, ⟨9, _⟩ => ⟨S4x4096x2048, .f32⟩
  | .hbm, ⟨10, _⟩ => ⟨S4x1x2048, .f32⟩
  | .hbm, ⟨11, _⟩ => ⟨S4x2048, .f32⟩
  | .hbm, ⟨12, _⟩ => ⟨S4x4096x2048, .f32⟩
  | .hbm, ⟨13, _⟩ => ⟨S4x1x2048, .f32⟩
  | .hbm, ⟨14, _⟩ => ⟨S4x4096x2048, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== InKernel.lean ====
abbrev S16384x2048 : Shape := ⟨2, ![16384, 2048]⟩
abbrev S4x3x2048 : Shape := ⟨3, ![4, 3, 2048]⟩
abbrev S2048 : Shape := ⟨1, ![2048]⟩
abbrev S6144x2048 : Shape := ⟨2, ![6144, 2048]⟩
abbrev S1x2048 : Shape := ⟨2, ![1, 2048]⟩
abbrev S16384x1024 : Shape := ⟨2, ![16384, 1024]⟩
abbrev S16384x3072 : Shape := ⟨2, ![16384, 3072]⟩
abbrev S1024x2048 : Shape := ⟨2, ![1024, 2048]⟩
abbrev S1x3x2048 : Shape := ⟨3, ![1, 3, 2048]⟩
abbrev S1024x1024 : Shape := ⟨2, ![1024, 1024]⟩
abbrev S1x1x2048 : Shape := ⟨3, ![1, 1, 2048]⟩
abbrev S128x2048 : Shape := ⟨2, ![128, 2048]⟩
abbrev S128 : Shape := ⟨1, ![128]⟩
abbrev S128x1 : Shape := ⟨2, ![128, 1]⟩
abbrev S512x2048 : Shape := ⟨2, ![512, 2048]⟩
abbrev S512x1024 : Shape := ⟨2, ![512, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S4x3x2048, .f32⟩
  | .hbm, ⟨2, _⟩ => ⟨S2048, .f32⟩
  | .hbm, ⟨3, _⟩ => ⟨S6144x2048, .bf16⟩
  | .hbm, ⟨4, _⟩ => ⟨S1x2048, .f32⟩
  | .hbm, ⟨5, _⟩ => ⟨S16384x1024, .f32⟩
  | .hbm, ⟨6, _⟩ => ⟨S16384x3072, .f32⟩
  | .hbm, ⟨7, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S1024x2048, .bf16⟩
  | .local _ .vmem, ⟨6, _⟩ => ⟨S1024x2048, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10 : BitVec 32 := 0#32
  let c4_i32_11 : BitVec 32 := 4#32
  let v19 : BitVec 32 := Scalar.addi c0_i32_10 c4_i32_11
  let c1_i32_12 : BitVec 32 := 1#32
  ⟨c0_i32_10, v19, c1_i32_12⟩
def k0_mult1 (k0_t1 : Fin k0_t1_loop.trips) : BitVec 32 :=
  let c0_i32_10 : BitVec 32 := 0#32
  let c1_i32_12 : BitVec 32 := 1#32
  let arg10 : BitVec 32 := Scf.iv c0_i32_10 c1_i32_12 k0_t1
  let c128_i32 : BitVec 32 := 128#32
  let v112 : BitVec 32 := Scalar.muli arg10 c128_i32
  v112
def k0_off1 (k0_t1 : Fin k0_t1_loop.trips) : Fin 2 → Nat :=
  let c0_i32_10 : BitVec 32 := 0#32
  let c1_i32_12 : BitVec 32 := 1#32
  let arg10 : BitVec 32 := Scf.iv c0_i32_10 c1_i32_12 k0_t1
  let c128_i32 : BitVec 32 := 128#32
  let v112 : BitVec 32 := Scalar.muli arg10 c128_i32
  let v113 : BitVec 32 := v112
  let v114 : Index := Scalar.indexCast v113
  let c0_52 : Index := 0#32
  ![v114.toNat, 0]
def k0_cond2 (i : grid0.Coords) : BitVec 1 :=
  let arg1 : BitVec 32 := BitVec.ofNat 32 (i 1).val
  let c1_i32 : BitVec 32 := 1#32
  let v3 : BitVec 1 := Scalar.cmpi .sge arg1 c1_i32
  let c4_i32 : BitVec 32 := 4#32
  let v4 : BitVec 1 := Scalar.cmpi .slt arg1 c4_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c4_i32_2 : BitVec 32 := 4#32
  let v8 : BitVec 1 := Scalar.cmpi .sge arg1 c4_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c3_i32 : BitVec 32 := 3#32
  let v1 : BitVec 32 := Scalar.subi v0 c3_i32
  let c0_i32 : BitVec 32 := 0#32
  let c1_i32_0 : BitVec 32 := 1#32
  let v2 : BitVec 32 := Scalar.maxsi c0_i32 v1
  let v3 : BitVec 32 := Scalar.minsi c1_i32_0 v2
  let c0_i32_1 : BitVec 32 := 0#32
  ![arg0.toNat, v3.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InReferenceIdeal.lean ====
abbrev S16384x2048 : Shape := ⟨2, ![16384, 2048]⟩
abbrev S4x3x2048 : Shape := ⟨3, ![4, 3, 2048]⟩
abbrev S2048 : Shape := ⟨1, ![2048]⟩
abbrev S6144x2048 : Shape := ⟨2, ![6144, 2048]⟩
abbrev S4x1x2048 : Shape := ⟨3, ![4, 1, 2048]⟩
abbrev S4x2048 : Shape := ⟨2, ![4, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x6144 : Shape := ⟨2, ![2048, 6144]⟩
abbrev S16384x6144 : Shape := ⟨2, ![16384, 6144]⟩
abbrev S16384x1024 : Shape := ⟨2, ![16384, 1024]⟩
abbrev S16384x3072 : Shape := ⟨2, ![16384, 3072]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x3x2048, .f32⟩
  | .hbm, ⟨2, _⟩ => ⟨S2048, .f32⟩
  | .hbm, ⟨3, _⟩ => ⟨S6144x2048, .bf16⟩
  | .hbm, ⟨4, _⟩ => ⟨S4x1x2048, .f32⟩
  | .hbm, ⟨5, _⟩ => ⟨S4x2048, .f32⟩
  | .hbm, ⟨6, _⟩ => ⟨S4x1x2048, .f32⟩
  | .hbm, ⟨7, _⟩ => ⟨S4x2048, .f32⟩
  | .hbm, ⟨8, _⟩ => ⟨S4x4096x2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S4x1x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S4x1x2048, .f32⟩
  | .hbm, ⟨32, _⟩ => ⟨S4x4096x2048, .f32⟩
  | .hbm, ⟨33, _⟩ => ⟨S4x4096x2048, .f32⟩
  | .hbm, ⟨34, _⟩ => ⟨S16384x2048, .f32⟩
  | .hbm, ⟨35, _⟩ => ⟨S6144x2048, .f32⟩
  | .hbm, ⟨36, _⟩ => ⟨S2048x6144, .f32⟩
  | .hbm, ⟨37, _⟩ => ⟨S16384x6144, .f32⟩
  | .hbm, ⟨38, _⟩ => ⟨S16384x1024, .f32⟩
  | .hbm, ⟨39, _⟩ => ⟨S16384x3072, .f32⟩
  | .hbm, ⟨40, _⟩ => ⟨S16384x2048, .f32⟩
  | .hbm, ⟨41, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== PrepKernel.lean ====
abbrev S16384x1024 : Shape := ⟨2, ![16384, 1024]⟩
abbrev S512 : Shape := ⟨1, ![512]⟩
abbrev S256 : Shape := ⟨1, ![256]⟩
abbrev S512x1024 : Shape := ⟨2, ![512, 1024]⟩
abbrev S8x96x256 : Shape := ⟨3, ![8, 96, 256]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S8 : Shape := ⟨1, ![8]⟩
abbrev S1x8 : Shape := ⟨2, ![1, 8]⟩
abbrev S4096x8 : Shape := ⟨2, ![4096, 8]⟩
abbrev S4096x96 : Shape := ⟨2, ![4096, 96]⟩
abbrev S4096x128 : Shape := ⟨2, ![4096, 128]⟩
abbrev S4096x112 : Shape := ⟨2, ![4096, 112]⟩
abbrev S4096x48 : Shape := ⟨2, ![4096, 48]⟩
abbrev S16x4096 : Shape := ⟨2, ![16, 4096]⟩
abbrev S8x4096 : Shape := ⟨2, ![8, 4096]⟩
abbrev S8x128x256 : Shape := ⟨3, ![8, 128, 256]⟩
abbrev S8x256x128 : Shape := ⟨3, ![8, 256, 128]⟩
abbrev S1x512 : Shape := ⟨2, ![1, 512]⟩
abbrev S1x256 : Shape := ⟨2, ![1, 256]⟩
abbrev S1024x512 : Shape := ⟨2, ![1024, 512]⟩
abbrev S128x2x288x512 : Shape := ⟨4, ![128, 2, 288, 512]⟩
abbrev S128x64x2048 : Shape := ⟨3, ![128, 64, 2048]⟩
abbrev S128x16x128 : Shape := ⟨3, ![128, 16, 128]⟩
abbrev S16384x288 : Shape := ⟨2, ![16384, 288]⟩
abbrev S16384x64 : Shape := ⟨2, ![16384, 64]⟩
abbrev S32x256x512 : Shape := ⟨3, ![32, 256, 512]⟩
abbrev S1024x1024 : Shape := ⟨2, ![1024, 1024]⟩
abbrev S16x1024 : Shape := ⟨2, ![16, 1024]⟩
abbrev S8x1024 : Shape := ⟨2, ![8, 1024]⟩
abbrev S1024x128 : Shape := ⟨2, ![1024, 128]⟩
abbrev S8x2x288x512 : Shape := ⟨4, ![8, 2, 288, 512]⟩
abbrev S8x64x2048 : Shape := ⟨3, ![8, 64, 2048]⟩
abbrev S8x16x128 : Shape := ⟨3, ![8, 16, 128]⟩
abbrev S1024x288 : Shape := ⟨2, ![1024, 288]⟩
abbrev S1024x64 : Shape := ⟨2, ![1024, 64]⟩
abbrev S2x256x512 : Shape := ⟨3, ![2, 256, 512]⟩
abbrev S1024 : Shape := ⟨1, ![1024]⟩
abbrev S1024x1 : Shape := ⟨2, ![1024, 1]⟩
abbrev S32x1024 : Shape := ⟨2, ![32, 1024]⟩
abbrev S1x256x128 : Shape := ⟨3, ![1, 256, 128]⟩
abbrev S256x128 : Shape := ⟨2, ![256, 128]⟩
abbrev S128x1024 : Shape := ⟨2, ![128, 1024]⟩
abbrev S256x1024 : Shape := ⟨2, ![256, 1024]⟩
abbrev S1x1x256x128 : Shape := ⟨4, ![1, 1, 256, 128]⟩
abbrev S32x128 : Shape := ⟨2, ![32, 128]⟩
abbrev S1x1x32x128 : Shape := ⟨4, ![1, 1, 32, 128]⟩
abbrev S48x1024 : Shape := ⟨2, ![48, 1024]⟩
abbrev S64x1024 : Shape := ⟨2, ![64, 1024]⟩
abbrev S64x128 : Shape := ⟨2, ![64, 128]⟩
abbrev S1x64x128 : Shape := ⟨3, ![1, 64, 128]⟩
abbrev S16x128 : Shape := ⟨2, ![16, 128]⟩
abbrev S1x16x128 : Shape := ⟨3, ![1, 16, 128]⟩
abbrev S1024x256 : Shape := ⟨2, ![1024, 256]⟩
abbrev S512x256 : Shape := ⟨2, ![512, 256]⟩
abbrev S256x512 : Shape := ⟨2, ![256, 512]⟩
abbrev S1x256x512 : Shape := ⟨3, ![1, 256, 512]⟩
abbrev S1024x32 : Shape := ⟨2, ![1024, 32]⟩

abbrev nBuf : Space → Nat
  | .hbm => 95
  | .vmem => 35
  | .smem => 0
  | _ => 0

abbrev bufTy : (tb : Table) → Fin (tcTables nBuf tb) → BufTy
  | .hbm, ⟨0, _⟩ => ⟨S16384x1024, .f32⟩
  | .hbm, ⟨1, _⟩ => ⟨S512, .f32⟩
  | .hbm, ⟨2, _⟩ => ⟨S256, .f32⟩
  | .hbm, ⟨3, _⟩ => ⟨S512x1024, .f32⟩
  | .hbm, ⟨4, _⟩ => ⟨S512x1024, .f32⟩
  | .hbm, ⟨5, _⟩ => ⟨S8x96x256, .f32⟩
  | .hbm, ⟨6, _⟩ => ⟨S4096, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096x1, .f32⟩
  | .hbm, ⟨22, _⟩ => ⟨S1x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S4096x1, .f32⟩
  | .hbm, ⟨43, _⟩ => ⟨S1x8, .f32⟩
  | .hbm, ⟨44, _⟩ => ⟨S4096x8, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S_, .f32⟩
  | .hbm, ⟨50, _⟩ => ⟨S4096x96, .f32⟩
  | .hbm, ⟨51, _⟩ => ⟨S4096x128, .f32⟩
  | .hbm, ⟨52, _⟩ => ⟨S4096x16, .f32⟩
  | .hbm, ⟨53, _⟩ => ⟨S_, .f32⟩
  | .hbm, ⟨54, _⟩ => ⟨S4096x96, .f32⟩
  | .hbm, ⟨55, _⟩ => ⟨S4096x128, .f32⟩
  | .hbm, ⟨56, _⟩ => ⟨S_, .f32⟩
  | .hbm, ⟨57, _⟩ => ⟨S4096x112, .f32⟩
  | .hbm, ⟨58, _⟩ => ⟨S4096x128, .f32⟩
  | .hbm, ⟨59, _⟩ => ⟨S4096x8, .f32⟩
  | .hbm, ⟨60, _⟩ => ⟨S_, .f32⟩
  | .hbm, ⟨61, _⟩ => ⟨S4096x112, .f32⟩
  | .hbm, ⟨62, _⟩ => ⟨S4096x128, .f32⟩
  | .hbm, ⟨63, _⟩ => ⟨S_, .f32⟩
  | .hbm, ⟨64, _⟩ => ⟨S4096x48, .f32⟩
  | .hbm, ⟨65, _⟩ => ⟨S4096x128, .f32⟩
  | .hbm, ⟨66, _⟩ => ⟨S4096x16, .f32⟩
  | .hbm, ⟨67, _⟩ => ⟨S_, .f32⟩
  | .hbm, ⟨68, _⟩ => ⟨S4096x48, .f32⟩
  | .hbm, ⟨69, _⟩ => ⟨S4096x48, .f32⟩
  | .hbm, ⟨70, _⟩ => ⟨S_, .f32⟩
  | .hbm, ⟨71, _⟩ => ⟨S4096x48, .f32⟩
  | .hbm, ⟨72, _⟩ => ⟨S4096x48, .f32⟩
  | .hbm, ⟨73, _⟩ => ⟨S4096x128, .f32⟩
  | .hbm, ⟨74, _⟩ => ⟨S16x4096, .f32⟩
  | .hbm, ⟨75, _⟩ => ⟨S16x4096, .f32⟩
  | .hbm, ⟨76, _⟩ => ⟨S8x4096, .f32⟩
  | .hbm, ⟨77, _⟩ => ⟨S8x4096, .f32⟩
  | .hbm, ⟨78, _⟩ => ⟨S_, .i32⟩
  | .hbm, ⟨79, _⟩ => ⟨S_, .f32⟩
  | .hbm, ⟨80, _⟩ => ⟨S8x128x256, .f32⟩
  | .hbm, ⟨81, _⟩ => ⟨S8x256x128, .f32⟩
  | .hbm, ⟨82, _⟩ => ⟨S8x256x128, .bf16⟩
  | .hbm, ⟨83, _⟩ => ⟨S1x512, .f32⟩
  | .hbm, ⟨84, _⟩ => ⟨S1x256, .f32⟩
  | .hbm, ⟨85, _⟩ => ⟨S1024x512, .f32⟩
  | .hbm, ⟨86, _⟩ => ⟨S1024x512, .bf16⟩
  | .hbm, ⟨87, _⟩ => ⟨S1024x512, .f32⟩
  | .hbm, ⟨88, _⟩ => ⟨S1024x512, .bf16⟩
  | .hbm, ⟨89, _⟩ => ⟨S128x2x288x512, .bf16⟩
  | .hbm, ⟨90, _⟩ => ⟨S128x64x2048, .bf16⟩
  | .hbm, ⟨91, _⟩ => ⟨S128x16x128, .f32⟩
  | .hbm, ⟨92, _⟩ => ⟨S16384x288, .bf16⟩
  | .hbm, ⟨93, _⟩ => ⟨S16384x64, .bf16⟩
  | .hbm, ⟨94, _⟩ => ⟨S32x256x512, .bf16⟩
  | .local _ .vmem, ⟨0, _⟩ => ⟨S1024x1024, .f32⟩
  | .local _ .vmem, ⟨1, _⟩ => ⟨S1024x1024, .f32⟩
  | .local _ .vmem, ⟨2, _⟩ => ⟨S1x512, .f32⟩
  | .local _ .vmem, ⟨3, _⟩ => ⟨S1x256, .f32⟩
  | .local _ .vmem, ⟨4, _⟩ => ⟨S1024x512, .bf16⟩
  | .local _ .vmem, ⟨5, _⟩ => ⟨S1024x512, .bf16⟩
  | .local _ .vmem, ⟨6, _⟩ => ⟨S8x256x128, .bf16⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S8x2x288x512, .bf16⟩
  | .local _ .vmem, ⟨24, _⟩ => ⟨S8x2x288x512, .bf16⟩
  | .local _ .vmem, ⟨25, _⟩ => ⟨S8x64x2048, .bf16⟩
  | .local _ .vmem, ⟨26, _⟩ => ⟨S8x64x2048, .bf16⟩
  | .local _ .vmem, ⟨27, _⟩ => ⟨S8x16x128, .f32⟩
  | .local _ .vmem, ⟨28, _⟩ => ⟨S8x16x128, .f32⟩
  | .local _ .vmem, ⟨29, _⟩ => ⟨S1024x288, .bf16⟩
  | .local _ .vmem, ⟨30, _⟩ => ⟨S1024x288, .bf16⟩
  | .local _ .vmem, ⟨31, _⟩ => ⟨S1024x64, .bf16⟩
  | .local _ .vmem, ⟨32, _⟩ => ⟨S1024x64, .bf16⟩
  | .local _ .vmem, ⟨33, _⟩ => ⟨S2x256x512, .bf16⟩
  | .local _ .vmem, ⟨34, _⟩ => ⟨S2x256x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c : Ref sig .tc := ⟨.hbm, 78, rfl⟩
abbrev main_call0_v0 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66_0 : Ref sig .tc := ⟨.hbm, 89, rfl⟩
abbrev main_v66_1 : Ref sig .tc := ⟨.hbm, 90, rfl⟩
abbrev main_v66_2 : Ref sig .tc := ⟨.hbm, 91, rfl⟩
abbrev main_v66_3 : Ref sig .tc := ⟨.hbm, 92, rfl⟩
abbrev main_v66_4 : Ref sig .tc := ⟨.hbm, 93, rfl⟩
abbrev main_v66_5 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x2x288x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x16x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x288 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== PrepReferenceIdeal.lean ====
abbrev S16384x1024 : Shape := ⟨2, ![16384, 1024]⟩
abbrev S512 : Shape := ⟨1, ![512]⟩
abbrev S256 : Shape := ⟨1, ![256]⟩
abbrev S512x1024 : Shape := ⟨2, ![512, 1024]⟩
abbrev S8x96x256 : Shape := ⟨3, ![8, 96, 256]⟩
abbrev S4x4096x1024 : Shape := ⟨3, ![4, 4096, 1024]⟩
abbrev S4x4096x512 : Shape := ⟨3, ![4, 4096, 512]⟩
abbrev S4x4096x256 : Shape := ⟨3, ![4, 4096, 256]⟩
abbrev S4x4096x32 : Shape := ⟨3, ![4, 4096, 32]⟩
abbrev S4x4096x64 : Shape := ⟨3, ![4, 4096, 64]⟩
abbrev S4x4096x16 : Shape := ⟨3, ![4, 4096, 16]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S4x4096x8x128 : Shape := ⟨4, ![4, 4096, 8, 128]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x8x16 : Shape := ⟨4, ![4, 4096, 8, 16]⟩
abbrev S4x4096x8x96 : Shape := ⟨4, ![4, 4096, 8, 96]⟩
abbrev S4x4096x8x32 : Shape := ⟨4, ![4, 4096, 8, 32]⟩
abbrev S8x256x4x4096 : Shape := ⟨4, ![8, 256, 4, 4096]⟩
abbrev S4x4096x8x256 : Shape := ⟨4, ![4, 4096, 8, 256]⟩
abbrev S4x4096x16x64 : Shape := ⟨4, ![4, 4096, 16, 64]⟩
abbrev S8 : Shape := ⟨1, ![8]⟩
abbrev S1x8 : Shape := ⟨2, ![1, 8]⟩
abbrev S4096x8 : Shape := ⟨2, ![4096, 8]⟩
abbrev S1x4096x1x8 : Shape := ⟨4, ![1, 4096, 1, 8]⟩
abbrev S4x4096x16x8 : Shape := ⟨4, ![4, 4096, 16, 8]⟩
abbrev S4x4096x16x48 : Shape := ⟨4, ![4, 4096, 16, 48]⟩
abbrev S1x1x256 : Shape := ⟨3, ![1, 1, 256]⟩
abbrev S4x4096x1x32 : Shape := ⟨4, ![4, 4096, 1, 32]⟩
abbrev S4x4096x1x16 : Shape := ⟨4, ![4, 4096, 1, 16]⟩
abbrev S4x4096x1x0 : Shape := ⟨4, ![4, 4096, 1, 0]⟩
abbrev S4x4096x1x64 : Shape := ⟨4, ![4, 4096, 1, 64]⟩
abbrev S4x4096x1x8 : Shape := ⟨4, ![4, 4096, 1, 8]⟩
abbrev S4x4096x1x48 : Shape := ⟨4, ![4, 4096, 1, 48]⟩
abbrev S4x4096x8x288 : Shape := ⟨4, ![4, 4096, 8, 288]⟩
abbrev S4x4096x288 : Shape := ⟨3, ![4, 4096, 288]⟩
abbrev S128x128x2x4x288 : Shape := ⟨5, ![128, 128, 2, 4, 288]⟩
abbrev S128x2x288x4x128 : Shape := ⟨5, ![128, 2, 288, 4, 128]⟩
abbrev S128x2x288x512 : Shape := ⟨4, ![128, 2, 288, 512]⟩
abbrev S128x128x16x64 : Shape := ⟨4, ![128, 128, 16, 64]⟩
abbrev S128x64x16x128 : Shape := ⟨4, ![128, 64, 16, 128]⟩
abbrev S128x64x2048 : Shape := ⟨3, ![128, 64, 2048]⟩
abbrev S128x128x16 : Shape := ⟨3, ![128, 128, 16]⟩
abbrev S128x16x128 : Shape := ⟨3, ![128, 16, 128]⟩
abbrev S16384x288 : Shape := ⟨2, ![16384, 288]⟩
abbrev S16384x64 : Shape := ⟨2, ![16384, 64]⟩
abbrev S32x512x256 : Shape := ⟨3, ![32, 512, 256]⟩
abbrev S32x256x512 : Shape := ⟨3, ![32, 256, 512]⟩

abbrev nBuf : Space → Nat
  | .hbm => 233
  | .vmem => 0
  | .smem => 0
  | _ => 0

abbrev hbmTy0_0 (i : Nat) : BufTy := match i % 128 with
  | 0 => ⟨S16384x1024, .f32⟩
  | 1 => ⟨S512, .f32⟩
  | 2 => ⟨S256, .f32⟩
  | 3 => ⟨S512x1024, .f32⟩
  | 4 => ⟨S512x1024, .f32⟩
  | 5 => ⟨S8x96x256, .f32⟩
  | 6 => ⟨S4x4096x1024, .f32⟩
  | 7 => ⟨S4x4096x512, .f32⟩
  | 8 => ⟨S4x4096x256, .f32⟩
  | 9 => ⟨S4x4096x32, .f32⟩
  | 10 => ⟨S4x4096x64, .f32⟩
  | 11 => ⟨S4x4096x16, .f32⟩
  | 12 => ⟨S4x4096x512, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x512, .f32⟩
  | 24 => ⟨S4x4096x512, .f32⟩
  | 25 => ⟨S1x1x512, .f32⟩
  | 26 => ⟨S4x4096x512, .f32⟩
  | 27 => ⟨S4x4096x512, .f32⟩
  | 28 => ⟨S4x4096x1024, .f32⟩
  | 29 => ⟨S4x4096x8x128, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S4096, .f32⟩
  | 45 => ⟨S4096x1, .f32⟩
  | 46 => ⟨S1x16, .f32⟩
  | 47 => ⟨S4096x16, .f32⟩
  | 48 => ⟨S4096x16, .f32⟩
  | 49 => ⟨S4096x16, .f32⟩
  | 50 => ⟨S4096x16, .f32⟩
  | 51 => ⟨S1x4096x1x16, .f32⟩
  | 52 => ⟨S4096x16, .f32⟩
  | 53 => ⟨S1x4096x1x16, .f32⟩
  | 54 => ⟨S4x4096x8x16, .f32⟩
  | 55 => ⟨S4x4096x8x16, .f32⟩
  | 56 => ⟨S4x4096x8x16, .f32⟩
  | 57 => ⟨S4x4096x8x16, .f32⟩
  | 58 => ⟨S4x4096x8x16, .f32⟩
  | 59 => ⟨S4x4096x8x16, .f32⟩
  | 60 => ⟨S4x4096x8x16, .f32⟩
  | 61 => ⟨S4x4096x8x16, .f32⟩
  | 62 => ⟨S4x4096x8x16, .f32⟩
  | 63 => ⟨S4x4096x8x16, .f32⟩
  | 64 => ⟨S4x4096x8x16, .f32⟩
  | 65 => ⟨S4x4096x8x16, .f32⟩
  | 66 => ⟨S4x4096x8x96, .f32⟩
  | 67 => ⟨S4x4096x8x128, .f32⟩
  | 68 => ⟨S4x4096x8x32, .f32⟩
  | 69 => ⟨S4x4096x8x96, .f32⟩
  | 70 => ⟨S8x256x4x4096, .f32⟩
  | 71 => ⟨S4x4096x8x256, .f32⟩
  | 72 => ⟨S4x4096x1024, .f32⟩
  | 73 => ⟨S4x4096x16x64, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S4096, .f32⟩
  | 89 => ⟨S4096x1, .f32⟩
  | 90 => ⟨S1x8, .f32⟩
  | 91 => ⟨S4096x8, .f32⟩
  | 92 => ⟨S4096x8, .f32⟩
  | 93 => ⟨S4096x8, .f32⟩
  | 94 => ⟨S4096x8, .f32⟩
  | 95 => ⟨S1x4096x1x8, .f32⟩
  | 96 => ⟨S4096x8, .f32⟩
  | 97 => ⟨S1x4096x1x8, .f32⟩
  | 98 => ⟨S4x4096x16x8, .f32⟩
  | 99 => ⟨S4x4096x16x8, .f32⟩
  | 100 => ⟨S4x4096x16x8, .f32⟩
  | 101 => ⟨S4x4096x16x8, .f32⟩
  | 102 => ⟨S4x4096x16x8, .f32⟩
  | 103 => ⟨S4x4096x16x8, .f32⟩
  | 104 => ⟨S4x4096x16x8, .f32⟩
  | 105 => ⟨S4x4096x16x8, .f32⟩
  | 106 => ⟨S4x4096x16x8, .f32⟩
  | 107 => ⟨S4x4096x16x8, .f32⟩
  | 108 => ⟨S4x4096x16x8, .f32⟩
  | 109 => ⟨S4x4096x16x8, .f32⟩
  | 110 => ⟨S4x4096x16x48, .f32⟩
  | 111 => ⟨S4x4096x16x64, .f32⟩
  | 112 => ⟨S_, .f32⟩
  | 113 => ⟨S4x4096x16, .f32⟩
  | 114 => ⟨S4x4096x16, .f32⟩
  | 115 => ⟨S4x4096x256, .f32⟩
  | 116 => ⟨S_, .f32⟩
  | 117 => ⟨S4x4096, .f32⟩
  | 118 => ⟨S4x4096x1, .f32⟩
  | 119 => ⟨S_, .f32⟩
  | 120 => ⟨S4x4096x1, .f32⟩
  | 121 => ⟨S4x4096x1, .f32⟩
  | 122 => ⟨S_, .f32⟩
  | 123 => ⟨S4x4096x1, .f32⟩
  | 124 => ⟨S4x4096x1, .f32⟩
  | 125 => ⟨S4x4096x1, .f32⟩
  | 126 => ⟨S4x4096x256, .f32⟩
  | 127 => ⟨S4x4096x256, .f32⟩
  | _ => ⟨S16384x1024, .f32⟩

abbrev hbmTy0_1 (i : Nat) : BufTy := match i % 128 with
  | 0 => ⟨S1x1x256, .f32⟩
  | 1 => ⟨S4x4096x256, .f32⟩
  | 2 => ⟨S4x4096x256, .f32⟩
  | 3 => ⟨S4x4096x1x32, .f32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S4096, .f32⟩
  | 19 => ⟨S4096x1, .f32⟩
  | 20 => ⟨S1x16, .f32⟩
  | 21 => ⟨S4096x16, .f32⟩
  | 22 => ⟨S4096x16, .f32⟩
  | 23 => ⟨S4096x16, .f32⟩
  | 24 => ⟨S4096x16, .f32⟩
  | 25 => ⟨S1x4096x1x16, .f32⟩
  | 26 => ⟨S4096x16, .f32⟩
  | 27 => ⟨S1x4096x1x16, .f32⟩
  | 28 => ⟨S4x4096x1x16, .f32⟩
  | 29 => ⟨S4x4096x1x16, .f32⟩
  | 30 => ⟨S4x4096x1x16, .f32⟩
  | 31 => ⟨S4x4096x1x16, .f32⟩
  | 32 => ⟨S4x4096x1x16, .f32⟩
  | 33 => ⟨S4x4096x1x16, .f32⟩
  | 34 => ⟨S4x4096x1x16, .f32⟩
  | 35 => ⟨S4x4096x1x16, .f32⟩
  | 36 => ⟨S4x4096x1x16, .f32⟩
  | 37 => ⟨S4x4096x1x16, .f32⟩
  | 38 => ⟨S4x4096x1x16, .f32⟩
  | 39 => ⟨S4x4096x1x16, .f32⟩
  | 40 => ⟨S4x4096x1x0, .f32⟩
  | 41 => ⟨S4x4096x1x32, .f32⟩
  | 42 => ⟨S4x4096x32, .f32⟩
  | 43 => ⟨S4x4096x1x64, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S4096, .f32⟩
  | 59 => ⟨S4096x1, .f32⟩
  | 60 => ⟨S1x8, .f32⟩
  | 61 => ⟨S4096x8, .f32⟩
  | 62 => ⟨S4096x8, .f32⟩
  | 63 => ⟨S4096x8, .f32⟩
  | 64 => ⟨S4096x8, .f32⟩
  | 65 => ⟨S1x4096x1x8, .f32⟩
  | 66 => ⟨S4096x8, .f32⟩
  | 67 => ⟨S1x4096x1x8, .f32⟩
  | 68 => ⟨S4x4096x1x8, .f32⟩
  | 69 => ⟨S4x4096x1x8, .f32⟩
  | 70 => ⟨S4x4096x1x8, .f32⟩
  | 71 => ⟨S4x4096x1x8, .f32⟩
  | 72 => ⟨S4x4096x1x8, .f32⟩
  | 73 => ⟨S4x4096x1x8, .f32⟩
  | 74 => ⟨S4x4096x1x8, .f32⟩
  | 75 => ⟨S4x4096x1x8, .f32⟩
  | 76 => ⟨S4x4096x1x8, .f32⟩
  | 77 => ⟨S4x4096x1x8, .f32⟩
  | 78 => ⟨S4x4096x1x8, .f32⟩
  | 79 => ⟨S4x4096x1x8, .f32⟩
  | 80 => ⟨S4x4096x1x48, .f32⟩
  | 81 => ⟨S4x4096x1x64, .f32⟩
  | 82 => ⟨S4x4096x64, .f32⟩
  | 83 => ⟨S4x4096x8x288, .f32⟩
  | 84 => ⟨S_, .f32⟩
  | 85 => ⟨S4x4096x8x288, .f32⟩
  | 86 => ⟨S4x4096x8x288, .f32⟩
  | 87 => ⟨S4x4096x288, .f32⟩
  | 88 => ⟨S128x128x2x4x288, .f32⟩
  | 89 => ⟨S128x2x288x4x128, .f32⟩
  | 90 => ⟨S128x2x288x512, .f32⟩
  | 91 => ⟨S128x2x288x512, .bf16⟩
  | 92 => ⟨S128x128x16x64, .f32⟩
  | 93 => ⟨S128x64x16x128, .f32⟩
  | 94 => ⟨S128x64x2048, .f32⟩
  | 95 => ⟨S128x64x2048, .bf16⟩
  | 96 => ⟨S128x128x16, .f32⟩
  | 97 => ⟨S128x16x128, .f32⟩
  | 98 => ⟨S16384x288, .f32⟩
  | 99 => ⟨S16384x288, .bf16⟩
  | 100 => ⟨S16384x64, .f32⟩
  | 101 => ⟨S16384x64, .bf16⟩
  | 102 => ⟨S32x512x256, .f32⟩
  | 103 => ⟨S32x256x512, .f32⟩
  | 104 => ⟨S32x256x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_6 : Ref sig .tc := ⟨.hbm, 75, rfl⟩
abbrev main_v62 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_8 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_10 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_cst_11 : Ref sig .tc := ⟨.hbm, 116, rfl⟩
abbrev main_v98 : Ref sig .tc := ⟨.hbm, 117, rfl⟩
abbrev main_v99 : Ref sig .tc := ⟨.hbm, 118, rfl⟩
abbrev main_cst_12 : Ref sig .tc := ⟨.hbm, 119, rfl⟩
abbrev main_v100 : Ref sig .tc := ⟨.hbm, 120, rfl⟩
abbrev main_v101 : Ref sig .tc := ⟨.hbm, 121, rfl⟩
abbrev main_cst_13 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_cst_14 : Ref sig .tc := ⟨.hbm, 133, rfl⟩
abbrev main_v112 : Ref sig .tc := ⟨.hbm, 134, rfl⟩
abbrev main_v113 : Ref sig .tc := ⟨.hbm, 135, rfl⟩
abbrev main_cst_15 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_cst_16 : Ref sig .tc := ⟨.hbm, 140, rfl⟩
abbrev main_v117 : Ref sig .tc := ⟨.hbm, 141, rfl⟩
abbrev main_v118 : Ref sig .tc := ⟨.hbm, 142, rfl⟩
abbrev main_cst_17 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_cst_18 : Ref sig .tc := ⟨.hbm, 173, rfl⟩
abbrev main_v148 : Ref sig .tc := ⟨.hbm, 174, rfl⟩
abbrev main_v149 : Ref sig .tc := ⟨.hbm, 175, rfl⟩
abbrev main_cst_19 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_cst_20 : Ref sig .tc := ⟨.hbm, 180, rfl⟩
abbrev main_v153 : Ref sig .tc := ⟨.hbm, 181, rfl⟩
abbrev main_v154 : Ref sig .tc := ⟨.hbm, 182, rfl⟩
abbrev main_cst_21 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_cst_22 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩

abbrev nD : Nat := 1
abbrev τ : Topo := Topo.v7x

variable {F : FTy → Type} [FloatOps F]
-- ==== ModKernel.lean ====
abbrev S16x2048 : Shape := ⟨2, ![16, 2048]⟩
abbrev S2048x6144 : Shape := ⟨2, ![2048, 6144]⟩
abbrev S6144 : Shape := ⟨1, ![6144]⟩
abbrev S1x6144 : Shape := ⟨2, ![1, 6144]⟩
abbrev S16x6144 : Shape := ⟨2, ![16, 6144]⟩
abbrev S2048x1024 : Shape := ⟨2, ![2048, 1024]⟩
abbrev S1x1024 : Shape := ⟨2, ![1, 1024]⟩
abbrev S16x1024 : Shape := ⟨2, ![16, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S16x2048 : Shape := ⟨2, ![16, 2048]⟩
abbrev S2048x6144 : Shape := ⟨2, ![2048, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x6144, .f32⟩
  | .hbm, ⟨2, _⟩ => ⟨S6144, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.OutValue.lean ====
/- What the output projection's kernel and its reference compute. -/
module

public import proofs.«01_k».proof.Defs
public import proofs.«01_k».proof.Proof.Gen.OutKernel.Frame
public import proofs.«01_k».proof.Proof.Gen.OutKernelIdeal.Value
public import proofs.«01_k».proof.Proof.Gen.OutReferenceIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.OutValue

abbrev A := Cert.OutKernelIdeal.S16384x1024.Idx → EReal
abbrev W := Cert.OutKernelIdeal.S2048x2048.Idx → EReal
abbrev X := Cert.OutKernelIdeal.S16384x2048.Idx → EReal
abbrev M := Cert.OutKernelIdeal.S4x3x2048.Idx → EReal
abbrev B := Cert.OutKernelIdeal.S2048.Idx → EReal

/-- The projection of the two branches' outputs: row `r`, column `d`. -/
def mix (a b : A) (w : W) (r : Fin 16384) (d : Fin 2048) : EReal :=
  (∑ k : Fin 1024, a (ix2 r k) * w (ix2 ⟨k.val, by omega⟩ d)) + ∑ k : Fin 1024, b (ix2 r k) * w (ix2 ⟨1024 + k.val, by omega⟩ d)

/-- The root mean square's factor of row `r`. -/
def scale (a b : A) (w : W) (r : Fin 16384) : EReal :=
  Ideal.rsqrt (Ideal.div (∑ d : Fin 2048, mix a b w r d * mix a b w r d) (Ideal.ofBits .f32 0x45000000#32) + Ideal.ofBits .f32 0x358637BD#32)

/-- The layer's result: row `r`, column `d`. -/
def result (a b : A) (w : W) (x : X) (mod : M) (g : B) (y : Cert.OutKernelIdeal.S16384x2048.Idx) : EReal :=
  x (ix2 (y 0) (y 1)) + mod (ix3 ⟨(y 0).val / 4096, Nat.div_lt_of_lt_mul (y 0).isLt⟩ 2 (y 1)) * (mix a b w (y 0) (y 1) * scale a b w (y 0) * g (ix1 (y 1)))

end Cert.OutValue

namespace Cert.OutKernelIdeal.OutValue

open Cert.OutKernelIdeal Cert.OutKernelIdeal.Gen Cert.OutValue

section
variable (v0 : Vec Ideal S512x1024 .bf16) (v1 : Vec Ideal S1024x2048 .bf16) (v4 : Vec Ideal S512x1024 .bf16) (v5 : Vec Ideal S1024x2048 .bf16) (v19 : Vec Ideal S1x2048 .f32) (v23 : Vec Ideal S512x2048 .f32) (v24 : Vec Ideal S1x1x2048 .f32)

/-- What a block's position holds, when the block's rows are the rows from `o` on. -/
theorem pay_apply {a b : A} {w : W} {x : X} {mod : M} {g : B} (i : Fin 512) (d : Fin 2048) (r : Fin 16384)
    (h0 : ∀ k, v0 (ix2 i k) = a (ix2 r k)) (h4 : ∀ k, v4 (ix2 i k) = b (ix2 r k))
    (h1 : ∀ (k : Fin 1024) d, v1 (ix2 k d) = w (ix2 ⟨k.val, by omega⟩ d)) (h5 : ∀ (k : Fin 1024) d, v5 (ix2 k d) = w (ix2 ⟨1024 + k.val, by omega⟩ d))
    (h19 : v19 (ix2 0 d) = g (ix1 d)) (h23 : v23 (ix2 i d) = x (ix2 r d)) (h24 : v24 (ix3 0 0 d) = mod (ix3 ⟨r.val / 4096, by omega⟩ 2 d)) :
    k0_pay1 (F := Ideal) v0 v1 v4 v5 v19 v23 v24 (ix2 i d) = result a b w x mod g (ix2 r d) := by
  unfold k0_pay1
  pointwise
  simp only [h0, h1, h4, h5, h19, h23, h24]
  rfl
end

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val / 8, 0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)

theorem points (t : Fin cfg0.N) : t.val < 32 := t.isLt

/-- The rounded weight is the weight. -/
theorem V_w : V (F := Ideal) m c main_v0 = (truncf .bf16 (m ((c : Thread nD τ).loc main_arg2) : FVec Ideal S2048x2048 .f32) bitsLt_bf16_f32 : FVec Ideal S2048x2048 .bf16) := by
  dsimp only [V]
  after_results <;> rfl
theorem V_g : V (F := Ideal) m c main_v1 = (shapeCast S1x2048 (m ((c : Thread nD τ).loc main_arg5) : FVec Ideal S2048 .f32) shapeCasts_S2048_S1x2048 : FVec Ideal S1x2048 .f32) := by
  dsimp only [V]
  after_results <;> rfl

theorem blk0 (t : Fin cfg0.N) (i : Fin 512) (k : Fin 1024) (r : Fin 16384) (h : r.val = 512 * t.val + i.val) :
    iblk m c 0 t (ix2 i k) = m ((c : Thread nD τ).loc main_arg0) (ix2 r k) := by
  blk_simp [iblk]
  rw [V_main_arg0]
  congr 1
  blk_ext [e0]
theorem blk1 (t : Fin cfg0.N) (i : Fin 512) (k : Fin 1024) (r : Fin 16384) (h : r.val = 512 * t.val + i.val) :
    iblk m c 1 t (ix2 i k) = m ((c : Thread nD τ).loc main_arg1) (ix2 r k) := by
  blk_simp [iblk]
  rw [V_main_arg1]
  congr 1
  blk_ext [e1]
theorem blk3 (t : Fin cfg0.N) (i : Fin 512) (k : Fin 2048) (r : Fin 16384) (h : r.val = 512 * t.val + i.val) :
    iblk m c 3 t (ix2 i k) = m ((c : Thread nD τ).loc main_arg3) (ix2 r k) := by
  blk_simp [iblk]
  rw [V_main_arg3]
  congr 1
  blk_ext [e3]
theorem blk2 (t : Fin cfg0.N) (i k : Fin 2048) :
    iblk m c 2 t (ix2 i k) = m ((c : Thread nD τ).loc main_arg2) (ix2 i k) := by
  blk_simp [iblk]
  rw [V_w]
  exact congrArg (m ((c : Thread nD τ).loc main_arg2)) (by blk_ext [e2])
theorem blk5 (t : Fin cfg0.N) (k : Fin 2048) :
    iblk m c 5 t (ix2 0 k) = m ((c : Thread nD τ).loc main_arg5) (ix1 k) := by
  blk_simp [iblk]
  rw [V_g]
  have : (win0_5.blk t).view.emb (ix2 0 k) = (ix2 0 k : S1x2048.Idx) := by blk_ext [e5]
  rw [this]
  pointwise
theorem blk4 (t : Fin cfg0.N) (k : Fin 2048) (r : Fin 16384) (i : Fin 512) (h : r.val = 512 * t.val + i.val) :
    iblk m c 4 t (ix3 0 2 k) = m ((c : Thread nD τ).loc main_arg4) (ix3 ⟨r.val / 4096, by omega⟩ 2 k) := by
  blk_simp [iblk]
  rw [V_main_arg4]
  congr 1
  blk_ext [e4]

theorem final : (dats m 0 c).arrAt 6 cfg0.N = result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out
  have ht := points t
  obtain ⟨i, d, rfl⟩ : ∃ (i : Fin 512) (d : Fin 2048), y = ix2 i d := ⟨y 0, y 1, eq_ix2 y⟩
  have he : ((View.whole main_v2).slice (win0_6.rect t)).emb (ix2 i d) = ix2 (⟨512 * t.val + i.val, by omega⟩ : Fin 16384) d := by blk_ext [e6]
  rw [he]
  refine pay_apply _ _ _ _ _ _ _ i d _ (fun k => blk0 m c t i k _ rfl) (fun k => blk1 m c t i k _ rfl) (fun k d => ?_) (fun k d => ?_) (blk5 m c t d)
    (blk3 m c t i d _ rfl) ?_
  · exact (congrArg (iblk m c 2 t) (by funext a; apply Fin.ext; fin_cases a <;> simp [Rect.emb])).trans (blk2 m c t ⟨k.val, by omega⟩ d)
  · exact (congrArg (iblk m c 2 t) (by funext a; apply Fin.ext; fin_cases a <;> simp [Rect.emb])).trans (blk2 m c t ⟨1024 + k.val, by omega⟩ d)
  · exact (congrArg (iblk m c 4 t) (by funext a; apply Fin.ext; fin_cases a <;> simp [Rect.emb])).trans (blk4 m c t d ⟨512 * t.val + i.val, by omega⟩ i rfl)
end Cert.OutKernelIdeal.OutValue

namespace Cert.OutReferenceIdeal.OutValue
open Cert.OutReferenceIdeal Cert.OutReferenceIdeal.Gen Cert.OutReferenceIdeal.Value Cert.OutValue

/-- The reference's term is the same function of its arguments. -/
theorem result_eq (a0 : FVec Ideal S16384x1024 .bf16) (a1 : FVec Ideal S16384x1024 .bf16) (a2 : FVec Ideal S2048x2048 .f32) (a3 : FVec Ideal S16384x2048 .f32)
    (a4 : FVec Ideal S4x3x2048 .f32) (a5 : FVec Ideal S2048 .f32) :
    (shapeCast S16384x2048 (addf (shapeCast _ a3 shapeCasts_S16384x2048_S4x4096x2048) (mulf (broadcastInDim S4x4096x2048 ![0, 1, 2] bcast_S4x1x2048_S4x4096x2048_0_1_2 (broadcastInDim S4x1x2048 ![0, 2] bcast_S4x2048_S4x1x2048_0_2 (shapeCast _ (extractStridedSlice S4x1x2048 ![0, 2, 0] a4 slices_S4x3x2048_S4x1x2048_0_2_0) shapeCasts_S4x1x2048_S4x2048))) (mulf (mulf (shapeCast _ (Host.dotGeneral dot_S16384x2048_S2048x2048_S16384x2048_1_0_0_1_n_n none (extf .f32 (concatenate S16384x2048 1 [⟨S16384x1024, a0⟩, ⟨S16384x1024, a1⟩] concatenates_S16384x1024_S16384x1024_S16384x2048_d1) bitsLt_bf16_f32) a2) shapeCasts_S16384x2048_S4x4096x2048) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (shapeCast _ (Host.dotGeneral dot_S16384x2048_S2048x2048_S16384x2048_1_0_0_1_n_n none (extf .f32 (concatenate S16384x2048 1 [⟨S16384x1024, a0⟩, ⟨S16384x1024, a1⟩] concatenates_S16384x1024_S16384x1024_S16384x2048_d1) bitsLt_bf16_f32) a2) shapeCasts_S16384x2048_S4x4096x2048) (shapeCast _ (Host.dotGeneral dot_S16384x2048_S2048x2048_S16384x2048_1_0_0_1_n_n none (extf .f32 (concatenate S16384x2048 1 [⟨S16384x1024, a0⟩, ⟨S16384x1024, a1⟩] concatenates_S16384x1024_S16384x1024_S16384x2048_d1) bitsLt_bf16_f32) a2) shapeCasts_S16384x2048_S4x4096x2048)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 a5))))) shapeCasts_S4x4096x2048_S16384x2048 : S16384x2048.Idx → EReal) = result a0 a1 a2 a3 a4 a5 := by
  funext y
  obtain ⟨r, d, rfl⟩ : ∃ (r : Fin 16384) (d : Fin 2048), y = ix2 r d := ⟨y 0, y 1, eq_ix2 y⟩
  pointwise
  rfl
end Cert.OutReferenceIdeal.OutValue

/-! ## The claims -/

namespace Cert.Proof.OutClaims

theorem frame_p : Cert.quiescent_OutKernel := fun m ρ _ => Cert.OutKernel.Gen.frame m ρ
theorem frame_pi : Cert.quiescent_OutKernelIdeal := fun m ρ _ => Cert.OutKernelIdeal.Gen.frame m ρ
theorem frame_ri : Cert.quiescent_OutReferenceIdeal := fun m ρ _ =>
  (θ_run Cert.OutReferenceIdeal.defs _ _).mono (fun r h => ⟨fun c => (h c).2,
      Idealize.ShloMosaic.sem_eq_zero_of_no_sems (by decide) r.2⟩)
    (Cert.OutReferenceIdeal.Value.run (F := Ideal) m ρ)
theorem preserves : Cert.preserves_OutKernel_OutKernelIdeal := trivial

/-- Both runs end with the layer's result: the kernel's by its blocks, the reference's by its operations. -/
theorem algebraic : Cert.algebraic_OutKernelIdeal_OutReferenceIdeal := by
  intro m ρ m' ρ' _ hagree
  refine ⟨_, Cert.OutKernelIdeal.Value.run_blocks (F := Ideal) m ρ, ?_⟩
  refine (θ_run Cert.OutReferenceIdeal.defs _ _).mono (fun _ h c => ⟨(h c).1.trans ?_, (h c).2⟩)
    (Cert.OutReferenceIdeal.Value.run (F := Ideal) m' ρ')
  rw [(hagree c).1, (hagree c).2.1, (hagree c).2.2.1, (hagree c).2.2.2.1, (hagree c).2.2.2.2.1, (hagree c).2.2.2.2.2]
  exact (Cert.OutReferenceIdeal.OutValue.result_eq _ _ _ _ _ _).trans (Cert.OutKernelIdeal.OutValue.final m c).symm

end Cert.Proof.OutClaims

end
-- ==== Proof.InFrame.lean ====
/- The kernel of the input projection, at any values: it ends, and its arguments are as they were. -/
module

public import proofs.«01_k».proof.Proof.Gen.InKernel.Frame
public import proofs.«01_k».proof.Proof.Gen.InKernel.Loops
public import Idealize.ShloMosaic.Lib.Claim
public import Idealize.ShloMosaic.Lib.Pipeline.FrameBody
public import Idealize.ShloMosaic.Lib.Pipeline.ArrRel
public import Idealize.ShloMosaic.Lib.Tactic
public import Idealize.ShloMosaic.Lib.Quiescent

@[expose] public section

set_option maxRecDepth 16384

noncomputable section

namespace Cert.InKernel.Run

open Cert.InKernel Cert.InKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

/-- A memref at some contents. -/
abbrev held (c : Dev nD) {s : Shape} {e : EltTy} (a : Memref sig .tc .vmem s e) : sProp 𝕄 := iprop(∃ d, owns (c : Thread nD τ) a fullShare d)

section
variable (c : Dev nD) (i : grid0.Coords) (arg2 : Memref sig .tc .vmem S1024x2048 .f32) (harg2 : arg2.IsWhole)
  (arg3 : Memref sig .tc .vmem S1x3x2048 .f32) (harg3 : arg3.IsWhole) (arg4 : Memref sig .tc .vmem S1x2048 .f32) (harg4 : arg4.IsWhole)
  (arg5 : Memref sig .tc .vmem S1024x2048 .bf16) (harg5 : arg5.IsWhole) (arg6 : Memref sig .tc .vmem S1024x1024 .f32) (harg6 : arg6.IsWhole)
  (arg7 : Memref sig .tc .vmem S1024x1024 .f32) (harg7 : arg7.IsWhole) (arg8 : Memref sig .tc .vmem S1024x1024 .bf16) (harg8 : arg8.IsWhole)
  (arg9 : Memref sig .tc .vmem S1024x2048 .bf16) (harg9 : arg9.IsWhole)

set_option maxHeartbeats 3200000 in
/-- One point, whatever its conditions: the inputs' blocks come back as they were, the others at some contents. -/
theorem point (x0 : Vec F S1024x2048 .f32) (x1 : Vec F S1x3x2048 .f32) (x2 : Vec F S1x2048 .f32) (x3 : Vec F S1024x2048 .bf16) (E : Set ℕ) (K : PUnit → sProp 𝕄) :
    iprop(owns c arg2 fullShare x0 ∗ owns c arg3 fullShare x1 ∗ owns c arg4 fullShare x2 ∗ owns c arg5 fullShare x3 ∗ held c arg6 ∗ held c arg7 ∗ held c arg8 ∗ held c arg9
      ∗ ((owns c arg2 fullShare x0 ∗ owns c arg3 fullShare x1 ∗ owns c arg4 fullShare x2 ∗ owns c arg5 fullShare x3 ∗ held c arg6 ∗ held c arg7 ∗ held c arg8 ∗ held c arg9) -∗ K ⟨⟩))
    ⊢ wp frame (wpE (defs₀ (F := F)) Variants.none (c : Thread nD τ) none) E
      (cc0_in_proj (F := F) i arg2 harg2 arg3 harg3 arg4 harg4 arg5 harg5 arg6 harg6 arg7 harg7 arg8 harg8 arg9 harg9) K := by
  simp only [cc0_in_proj_eq_skeleton]
  unfold cc0_in_proj_skel
  unfold held owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf2 hf3 hf4 hf5
  by_cases h1 : k0_cond1 i = 1#1 <;> by_cases h2 : k0_cond2 i = 1#1 <;> by_cases h3 : k0_cond3 i = 1#1
  all_goals
    sl_exec
    sl_step
    iapply Hk
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rfl
    isplitl [H6]; · iexists _; iexists _; isplitr; swap; · iexact H6
                    ipureintro; rfl
    isplitl [H7]; · iexists _; iexists _; isplitr; swap; · iexact H7
                    ipureintro; rfl
    isplitl [H8]; · iexists _; iexists _; isplitr; swap; · iexact H8
                    ipureintro; rfl
    iexists _; iexists _; isplitr; swap; · iexact H9
    ipureintro; rfl
end

variable (m : (ℓ : Loc nD τ sig) → Buf (Elt F) ℓ) (c : Dev nD)

/-- The relation a body leaves a block in: an input's as it was found, an output's free. -/
def leaves (w : Fin cfg0.W) : (Y X : (cfg0.win w).block.Idx → Elt F (cfg0.win w).elt) → Prop := fun Y X => w.val < 4 → X = Y

def rdat : RDat τ (Elt F) Unit ℕ (UR sig nD τ) ℕ cfg0 c where
  A w := V m c (Pipeline.arrRef spec0 w)
  after w _ := leaves w
  Φ _ := Pipeline.ΦA spec0 c
  q _ := fullShare
  owed _ := 0

theorem defs₀_row (t : Fin cfg0.N) : defs₀ (F := F) .tc cfg0.body (cfg0.bodyArgs t (cfg0.slots t)) = bodyAt0 t := by
  unfold defs₀; rw [Defs.onTc_tc]

/-- The class's invariant, with the scratch as a memref. -/
theorem PhiA_eq : (Pipeline.ΦA spec0 c : sProp 𝕄) = iprop(held c (Memref.whole cc0_scratch0 : Memref sig .tc .vmem S1024x2048 .bf16) ∗ ∃ r, prngReg c r) := by
  unfold Pipeline.ΦA held; rw [scopedRest0_eq]; simp only [owns_whole]

set_option maxHeartbeats 800000 in
/-- At every point the body gives back what it was handed. -/
theorem obligation : (rdat m c).BodyObligation (defs₀ (F := F)) Variants.none () Set.univ := by
  intro t Y hY
  rw [bigSep_W0, bigSep_W0, defs₀_row]
  show iprop(Pipeline.ΦA spec0 c ∗ _) ⊢ wp frame _ _ _ fun _ => iprop(Pipeline.ΦA spec0 c ∗ _)
  rw [PhiA_eq]
  iintro ⟨⟨HS, HR⟩, HO, H0, H1, H2, H3, H4, H5, H6⟩
  iapply (point c (grid0.coords t) _ (hstage0_0 ((cfg0.slots t 0).cast nbuf0_0))
      _ (hstage0_1 ((cfg0.slots t 1).cast nbuf0_1))
      _ (hstage0_2 ((cfg0.slots t 2).cast nbuf0_2))
      _ (hstage0_3 ((cfg0.slots t 3).cast nbuf0_3))
      _ (hstage0_4 ((cfg0.slots t 4).cast nbuf0_4))
      _ (hstage0_5 ((cfg0.slots t 5).cast nbuf0_5))
      _ (hstage0_6 ((cfg0.slots t 6).cast nbuf0_6))
      _ (Memref.isWhole_whole cc0_scratch0) (Y 0) (Y 1) (Y 2) (Y 3) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS]; · iexact HS
  iintro ⟨H0, H1, H2, H3, ⟨%d4, H4⟩, ⟨%d5, H5⟩, ⟨%d6, H6⟩, HS⟩
  isplitl [HS HR]
  · isplitl [HS]; · iexact HS
    iexact HR
  isplitl [HO]; · iexact HO
  isplitl [H0]; · iexists _; isplitr; swap; · iexact H0
                  ipureintro; exact fun _ => rfl
  isplitl [H1]; · iexists _; isplitr; swap; · iexact H1
                  ipureintro; exact fun _ => rfl
  isplitl [H2]; · iexists _; isplitr; swap; · iexact H2
                  ipureintro; exact fun _ => rfl
  isplitl [H3]; · iexists _; isplitr; swap; · iexact H3
                  ipureintro; exact fun _ => rfl
  isplitl [H4]; · iexists _; isplitr; swap; · iexact H4
                  ipureintro; exact fun h => absurd h (by decide)
  isplitl [H5]; · iexists _; isplitr; swap; · iexact H5
                  ipureintro; exact fun h => absurd h (by decide)
  iexists _; isplitr; swap; · iexact H6
  ipureintro; exact fun h => absurd h (by decide)

variable (ρ : Dev nD → PrngReg)

set_option backward.isDefEq.respectTransparency.types false in
set_option maxHeartbeats 800000 in
/-- The run, with its input arrays as they were and its counters at zero. -/
theorem run_arrays : θ_run defs (onTc (τ := τ) (main (F := F))) (s₀ m ρ)
    (fun r => Pipeline.RDat.FramePost (cfgs 0) (rdat m) (V m) r ∧ r.2.sem = fun _ => 0) :=
  Pipeline.RDat.θ_run_frame_track cfgs (0 : Fin 1) launch0 defs₀ Variants.none (rdat m) m ρ (main (F := F)) (hbody := fun c => obligation m c)
    (hshare := fun c w => by unfold Pipeline.RDat.share; split <;> rfl) (howed := fun _ _ => rfl) (V := V m) (hmain := hmain m Variants.none) (hA := fun _ _ => rfl)
    (hin := fun c => .rfl) (hout := fun c => .rfl)
    (Q' := fun r => Pipeline.RDat.FramePost (cfgs 0) (rdat m) (V m) r ∧ r.2.sem = fun _ => 0) (hQ' := fun _ h => h)

/-- The run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨(Pipeline.RDat.FramePost.arr_in h.1 c 0 rfl).trans (V_main_arg0 m c), (Pipeline.RDat.FramePost.arr_in h.1 c 1 rfl).trans (V_main_arg1 m c),
    ((h.1 c).2 main_arg2 (Pipeline.mem_restRefs_of main_arg2 (by decide) (by decide))).trans (V_main_arg2 m c),
    (Pipeline.RDat.FramePost.arr_in h.1 c 3 rfl).trans (V_main_arg3 m c)⟩, h.2⟩) (run_arrays m ρ)

end Cert.InKernel.Run

end
-- ==== Proof.InRun.lean ====
/- One point of the input projection: what the body leaves in the scratch and in the output blocks. -/
module

public import proofs.«01_k».proof.Proof.Gen.InKernelIdeal.Frame
public import proofs.«01_k».proof.Proof.Gen.InKernelIdeal.Skeleton
public import Idealize.ShloMosaic.Lib.Claim
public import Idealize.ShloMosaic.Lib.Pipeline.FrameBody
public import Idealize.ShloMosaic.Lib.Pipeline.ValueKit
public import Idealize.ShloMosaic.Lib.Pointwise
public import Idealize.ShloMosaic.Lib.Ring
public import Idealize.ShloMosaic.Lib.Tactic
public import Idealize.ShloMosaic.Lib.WordCmp
public import Idealize.ShloMosaic.Lib.WritesUnit
public import Idealize.ShloMosaic.Lib.VecWindow

@[expose] public section

set_option maxRecDepth 16384

noncomputable section

namespace Cert.InKernelIdeal.InRun

open Cert.InKernelIdeal Cert.InKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

abbrev Rows := S1024x2048.Idx → EReal
abbrev Line := S1x2048.Idx → EReal

/-- The modulated rows of a block `x`: normalised, scaled by the gain `g` and by one more than `s`, shifted by `b`. -/
def modulated (x : Rows) (b s : S1x1x2048.Idx → EReal) (g : Line) : Rows := fun y =>
  x y * Ideal.rsqrt (Ideal.div (∑ d : Fin 2048, x (ix2 (y 0) d) * x (ix2 (y 0) d)) (Ideal.ofBits .f32 0x45000000#32) + Ideal.ofBits .f32 0x358637BD#32)
    * g (ix2 0 (y 1)) * (1 + s (ix3 0 0 (y 1))) + b (ix3 0 0 (y 1))

/-- The products of the rows of `h` with the rows of `w`. -/
def product (h w : Rows) : S1024x1024.Idx → EReal := fun y => ∑ k : Fin 2048, h (ix2 (y 0) k) * w (ix2 (y 1) k)

/-- The rows of a block from row `o` on, modulated. -/
theorem pay_rows (x : Rows) (b s : S1x1x2048.Idx → EReal) (g : Line) (v : S128x2048.Idx → EReal) (o : ℕ) (ho : o + 128 ≤ 1024)
    (hv : ∀ (i : Fin 128) (d : Fin 2048), v (ix2 i d) = x (ix2 ⟨o + i.val, by omega⟩ d)) (i : Fin 128) (d : Fin 2048) :
    k0_pay9 (F := Ideal) b s g v (ix2 i d) = modulated x b s g (ix2 ⟨o + i.val, by omega⟩ d) := by
  unfold k0_pay9 k0_pay8 k0_pay7 k0_pay6
  pointwise
  simp only [hv]
  rfl

/-- Writing the next rows of `G` extends the rows that hold `G`. -/
theorem rows_step {N D W o : ℕ} (lo : ℕ) {e : EltTy} (a : View sig .tc .vmem (⟨2, ![N, D]⟩ : Shape) e) (f : a.ty.Contents (Elt Ideal))
    (L : List (View.Piece (Elt Ideal) (⟨2, ![N, D]⟩ : Shape) e)) (G : (⟨2, ![N, D]⟩ : Shape).Idx → Elt Ideal e) {off size : Fin 2 → ℕ}
    (inb : ∀ r, off r + size r ≤ (⟨2, ![N, D]⟩ : Shape).size r) (w : (Rect.unit (s := ⟨2, ![N, D]⟩) off size inb).shape.Idx → Elt Ideal e)
    (hoff : off = ![o, 0]) (hsize : size = ![W, D])
    (hf : ∀ y, lo ≤ (y 0).val → (y 0).val < o → a.read (Elt Ideal) (a.writes (Elt Ideal) f L) y = G y)
    (hw : ∀ x, w x = G ((Rect.unit (s := ⟨2, ![N, D]⟩) off size inb).emb x)) :
    ∀ y, lo ≤ (y 0).val → (y 0).val < o + W → a.read (Elt Ideal) (a.writes (Elt Ideal) f (⟨Rect.unit (s := ⟨2, ![N, D]⟩) off size inb, w⟩ :: L)) y = G y := by
  intro y hl hy
  by_cases hlt : (y 0).val < o
  · exact (View.read_writes_cons_rows_of_not_mem a f inb w L y hoff (W := W) (by rw [hsize]; rfl) (.inl hlt)).trans (hf y hl hlt)
  · subst hoff hsize
    have hm := Rect.unit_rows_mem (d := ![N, D]) (size := ![W, D]) (o := o) (W := W) y rfl rfl ⟨Nat.le_of_not_lt hlt, hy⟩
    let z := Rect.unitLocal (s := ⟨2, ![N, D]⟩) (off := ![o, 0]) (size := ![W, D]) y hm
    have he : (Rect.unit (s := ⟨2, ![N, D]⟩) ![o, 0] ![W, D] inb).emb z = y := by
      funext r
      apply Fin.ext
      show (![o, 0] : Fin 2 → ℕ) r + 1 * ((y r).val - (![o, 0] : Fin 2 → ℕ) r) = (y r).val
      have := (hm r).1
      omega
    have h1 := (View.read_writes_cons_emb a f (Rect.unit (s := ⟨2, ![N, D]⟩) ![o, 0] ![W, D] inb) w L z).trans (hw _)
    rw [he] at h1
    exact h1

theorem off1_eq (k : Fin k0_t1_loop.trips) : k0_off1 k = ![128 * k.val, 0] := by revert k; decide +kernel

section
variable (c : Dev nD) (i : grid0.Coords) (arg2 : Memref sig .tc .vmem S1024x2048 .f32) (harg2 : arg2.IsWhole)
  (arg3 : Memref sig .tc .vmem S1x3x2048 .f32) (harg3 : arg3.IsWhole) (arg4 : Memref sig .tc .vmem S1x2048 .f32) (harg4 : arg4.IsWhole)
  (arg5 : Memref sig .tc .vmem S1024x2048 .bf16) (harg5 : arg5.IsWhole) (arg6 : Memref sig .tc .vmem S1024x1024 .f32) (harg6 : arg6.IsWhole)
  (arg7 : Memref sig .tc .vmem S1024x1024 .f32) (harg7 : arg7.IsWhole) (arg8 : Memref sig .tc .vmem S1024x1024 .bf16) (harg8 : arg8.IsWhole)
  (arg9 : Memref sig .tc .vmem S1024x2048 .bf16) (harg9 : arg9.IsWhole)

/-- A piece of 128 modulated rows. -/
theorem piece_rows (X : BufTy.Contents (Elt Ideal) arg2.view.ty) (b s : Vec Ideal S1x1x2048 .f32) (g : Vec Ideal S1x2048 .f32) {off : Fin 2 → ℕ} {o : ℕ}
    (hoff : off = ![o, 0]) (inb : ∀ r, off r + S128x2048.size r ≤ S1024x2048.size r) (x : S128x2048.Idx) :
    k0_pay9 (F := Ideal) b s g (arg2.view.readAt (Elt Ideal) (Rect.unit (s := S1024x2048) off S128x2048.size inb).toLoadRect X) x
      = modulated (arg2.view.read (Elt Ideal) X) b s g ((Rect.unit (s := S1024x2048) off S128x2048.size inb).emb x) := by
  subst hoff
  have ho : o + 128 ≤ 1024 := inb 0
  have he : ∀ (i : Fin 128) (d : Fin 2048), (Rect.unit (s := S1024x2048) ![o, 0] S128x2048.size inb).emb (ix2 i d : S128x2048.Idx) = ix2 ⟨o + i.val, by omega⟩ d := by
    intro i d
    funext r
    apply Fin.ext
    fin_cases r
    · show o + 1 * i.val = o + i.val; omega
    · show 0 + 1 * d.val = d.val; omega
  obtain ⟨i, d, rfl⟩ : ∃ (i : Fin 128) (d : Fin 2048), x = ix2 i d := ⟨x 0, x 1, eq_ix2 x⟩
  rw [he]
  exact pay_rows _ _ _ _ _ o ho (fun i d => congrArg (arg2.view.read (Elt Ideal) X) (he i d)) i d

set_option warn.classDefReducibility false in
/-- Before trip `k` the first `128 k` rows of the scratch are modulated. -/
@[sl_loop] def rowsInv (𝒱 : Variants) (bd : Option 𝒱.V) (E : Set ℕ) (k0_h1 : k0_cond1 i = 1#1) (v11 v13 : Vec Ideal S1x1x2048 .f32) (v17 : Vec Ideal S1x2048 .f32)
    (X : BufTy.Contents (Elt Ideal) arg2.view.ty) :
    Idealize.ShloMosaic.LoopInv (M := 𝕄) Idealize.ShloMosaic.frame (wpE defs₀ 𝒱 (c : Thread nD τ) bd) E
      k0_t1_loop.lb k0_t1_loop.ub k0_t1_loop.st (k0_t1_ok i k0_h1) ()
      (k0_t1_body (F := Ideal) i arg2 harg2 arg3 harg3 arg4 harg4 arg5 harg5 arg6 harg6 arg7 harg7 arg8 harg8 arg9 harg9 k0_h1 v11 v13 v17) where
  inv k _ := iprop((arg2.view.loc (c : Thread nD τ) ↦[arg2.view.set]{fullShare} X)
    ∗ ∃ f, ⌜∀ y, 0 ≤ (y 0).val → (y 0).val < 128 * k → arg9.view.read (Elt Ideal) f y = modulated (arg2.view.read (Elt Ideal) X) v11 v13 v17 y⌝
      ∗ (arg9.view.loc (c : Thread nD τ) ↦[arg9.view.set]{fullShare} f))
  step k acc := by
    have hk : k.val < 4 := Nat.lt_of_lt_of_le k.isLt k0_t1_abs.2.1
    iintro ⟨H2, %f, %hf, H9⟩
    unfold k0_t1_body
    sl_exec
    sl_step
    isplitl [H2]; · iexact H2
    iexists _; isplitr; swap; · iexact H9
    ipureintro
    exact rows_step 0 arg9.view f [] _ _ _ (off1_eq k) rfl hf (fun x => piece_rows arg2 X v11 v13 v17 (off1_eq k) _ x)

/-- The second half of a block of products. -/
theorem pay_late (h : S512x2048.Idx → EReal) (w : Rows) (i : Fin 512) (n : Fin 1024) :
    k0_pay3 (F := Ideal) h w (ix2 i n) = ∑ k : Fin 2048, h (ix2 i k) * w (ix2 n k) := by
  unfold k0_pay3
  pointwise

/-- The first half of a block of products. -/
theorem pay_early (h : S512x2048.Idx → EReal) (w : Rows) (i : Fin 512) (n : Fin 1024) :
    k0_pay10 (F := Ideal) h w (ix2 i n) = ∑ k : Fin 2048, h (ix2 i k) * w (ix2 n k) := by
  unfold k0_pay10
  pointwise

/-- A whole block of products. -/
theorem pay_whole (h w : Rows) : k0_pay4 (F := Ideal) h w = product h w := by
  funext y
  obtain ⟨i, n, rfl⟩ : ∃ (i n : Fin 1024), y = ix2 i n := ⟨y 0, y 1, eq_ix2 y⟩
  unfold k0_pay4
  pointwise
  rfl

/-- A whole block of products, of the narrower kind. -/
theorem pay_gates (h w : Rows) : k0_pay5 (F := Ideal) h w = product h w := by
  funext y
  obtain ⟨i, n, rfl⟩ : ∃ (i n : Fin 1024), y = ix2 i n := ⟨y 0, y 1, eq_ix2 y⟩
  unfold k0_pay5
  pointwise
  rfl

/-- A half block of products of the first half of the rows `G`. -/
theorem piece_early (G : Rows) (w w' : Rows) (v : S512x2048.Idx → EReal) (hw : w' = w)
    (hv : ∀ x, v x = G ((Rect.unit (s := S1024x2048) ![0, 0] S512x2048.size inb_S1024x2048_S512x2048_0_0).emb x)) (x : S512x1024.Idx) :
    k0_pay10 (F := Ideal) v w' x = product G w ((Rect.unit (s := S1024x1024) ![0, 0] S512x1024.size inb_S1024x1024_S512x1024_0_0).emb x) := by
  subst hw
  obtain ⟨i, n, rfl⟩ : ∃ (i : Fin 512) (n : Fin 1024), x = ix2 i n := ⟨x 0, x 1, eq_ix2 x⟩
  rw [pay_early]
  refine Finset.sum_congr rfl fun k _ => ?_
  rw [hv]
  refine congrArg₂ (· * ·) (congrArg G (funext fun r => Fin.ext ?_)) (congrArg w' (funext fun r => Fin.ext ?_))
  · fin_cases r
    · rfl
    · show 0 + 1 * k.val = k.val; omega
  · fin_cases r
    · show n.val = 0 + 1 * n.val; omega
    · rfl

/-- A half block of products of the second half of the rows `G`. -/
theorem piece_late (G : Rows) (w w' : Rows) (v : S512x2048.Idx → EReal) (hw : w' = w)
    (hv : ∀ x, v x = G ((Rect.unit (s := S1024x2048) ![512, 0] S512x2048.size inb_S1024x2048_S512x2048_512_0).emb x)) (x : S512x1024.Idx) :
    k0_pay3 (F := Ideal) v w' x = product G w ((Rect.unit (s := S1024x1024) ![512, 0] S512x1024.size inb_S1024x1024_S512x1024_512_0).emb x) := by
  subst hw
  obtain ⟨i, n, rfl⟩ : ∃ (i : Fin 512) (n : Fin 1024), x = ix2 i n := ⟨x 0, x 1, eq_ix2 x⟩
  rw [pay_late]
  refine Finset.sum_congr rfl fun k _ => ?_
  rw [hv]
  refine congrArg₂ (· * ·) (congrArg G (funext fun r => Fin.ext ?_)) (congrArg w' (funext fun r => Fin.ext ?_))
  · fin_cases r
    · rfl
    · show 0 + 1 * k.val = k.val; omega
  · fin_cases r
    · show n.val = 0 + 1 * n.val; omega
    · rfl

/-- The four pieces after the loop carry the modulated rows from row 512 on. -/
theorem late_rows (lo : ℕ) (f : BufTy.Contents (Elt Ideal) arg9.view.ty) (X : BufTy.Contents (Elt Ideal) arg2.view.ty) (b s : Vec Ideal S1x1x2048 .f32) (g : Vec Ideal S1x2048 .f32)
    (hf : ∀ y, lo ≤ (y 0).val → (y 0).val < 512 → arg9.view.read (Elt Ideal) f y = modulated (arg2.view.read (Elt Ideal) X) b s g y) :
    ∀ y, lo ≤ (y 0).val → (y 0).val < 1024 → arg9.view.read (Elt Ideal) (arg9.view.writes (Elt Ideal) f
      [⟨Rect.unit (s := S1024x2048) ![896, 0] S128x2048.size inb_S1024x2048_S128x2048_896_0, k0_pay2 (F := Ideal) (k0_pay6 b) (k0_pay7 s) (k0_pay8 g)
          (arg2.view.readAt (Elt Ideal) (Rect.unit (s := S1024x2048) ![896, 0] S128x2048.size inb_S1024x2048_S128x2048_896_0).toLoadRect X)⟩,
       ⟨Rect.unit (s := S1024x2048) ![768, 0] S128x2048.size inb_S1024x2048_S128x2048_768_0, k0_pay1 (F := Ideal) (k0_pay14 (k0_pay6 b) (k0_pay7 s) (k0_pay8 g)
          (arg2.view.readAt (Elt Ideal) (Rect.unit (s := S1024x2048) ![768, 0] S128x2048.size inb_S1024x2048_S128x2048_768_0).toLoadRect X))⟩,
       ⟨Rect.unit (s := S1024x2048) ![640, 0] S128x2048.size inb_S1024x2048_S128x2048_640_0, k0_pay13 (F := Ideal) (k0_pay6 b) (k0_pay7 s) (k0_pay8 g)
          (arg2.view.readAt (Elt Ideal) (Rect.unit (s := S1024x2048) ![640, 0] S128x2048.size inb_S1024x2048_S128x2048_640_0).toLoadRect X)⟩,
       ⟨Rect.unit (s := S1024x2048) ![512, 0] S128x2048.size inb_S1024x2048_S128x2048_512_0, k0_pay12 (F := Ideal) (k0_pay11 b s g
          (arg2.view.readAt (Elt Ideal) (Rect.unit (s := S1024x2048) ![512, 0] S128x2048.size inb_S1024x2048_S128x2048_512_0).toLoadRect X))⟩]) y
      = modulated (arg2.view.read (Elt Ideal) X) b s g y := by
  have p4 := rows_step lo arg9.view f [] _ inb_S1024x2048_S128x2048_512_0 _ rfl rfl hf (fun x => piece_rows arg2 X b s g rfl inb_S1024x2048_S128x2048_512_0 x)
  have p5 := rows_step lo arg9.view f _ _ inb_S1024x2048_S128x2048_640_0 _ rfl rfl p4 (fun x => piece_rows arg2 X b s g rfl inb_S1024x2048_S128x2048_640_0 x)
  have p6 := rows_step lo arg9.view f _ _ inb_S1024x2048_S128x2048_768_0 _ rfl rfl p5 (fun x => piece_rows arg2 X b s g rfl inb_S1024x2048_S128x2048_768_0 x)
  exact rows_step lo arg9.view f _ _ inb_S1024x2048_S128x2048_896_0 _ rfl rfl p6 (fun x => piece_rows arg2 X b s g rfl inb_S1024x2048_S128x2048_896_0 x)

/-- The scale of a block's rows, from the block of the modulation. -/
abbrev scaleOf (x1 : S1x3x2048.Idx → EReal) : S1x1x2048.Idx → EReal := fun z => x1 (ix3 0 1 (z 2))

/-- The shift of a block's rows, from the block of the modulation. -/
abbrev shiftOf (x1 : S1x3x2048.Idx → EReal) : S1x1x2048.Idx → EReal := fun z => x1 (ix3 0 0 (z 2))

/-- The first point of a tile: the scratch takes the modulated rows, the first block their products with the weights. -/
theorem run_first (h1 : k0_cond1 i = 1#1) (h2 : ¬ k0_cond2 i = 1#1) (h3 : ¬ k0_cond3 i = 1#1) (x0 : Rows) (x1 : S1x3x2048.Idx → EReal) (x2 : Line) (x3 : Rows)
    (d6 : S1024x1024.Idx → EReal) (d9 : Rows) (E : Set ℕ) (K : PUnit → sProp 𝕄) :
    iprop(owns c arg2 fullShare x0 ∗ owns c arg3 fullShare x1 ∗ owns c arg4 fullShare x2 ∗ owns c arg5 fullShare x3 ∗ owns c arg6 fullShare d6 ∗ owns c arg9 fullShare d9
      ∗ ((owns c arg2 fullShare x0 ∗ owns c arg3 fullShare x1 ∗ owns c arg4 fullShare x2 ∗ owns c arg5 fullShare x3
          ∗ owns c arg6 fullShare (product (modulated x0 (shiftOf x1) (scaleOf x1) x2) x3)
          ∗ owns c arg9 fullShare (modulated x0 (shiftOf x1) (scaleOf x1) x2)) -∗ K ⟨⟩))
    ⊢ wp frame (wpE (defs₀ (F := Ideal)) Variants.none (c : Thread nD τ) none) E
      (cc0_in_proj (F := Ideal) i arg2 harg2 arg3 harg3 arg4 harg4 arg5 harg5 arg6 harg6 arg7 harg7 arg8 harg8 arg9 harg9) K := by
  simp only [cc0_in_proj_eq_skeleton]
  unfold cc0_in_proj_skel
  unfold owns
  iintro ⟨⟨%f2, %hf2, H2⟩, ⟨%f3, %hf3, H3⟩, ⟨%f4, %hf4, H4⟩, ⟨%f5, %hf5, H5⟩, ⟨%f6, %hf6, H6⟩, ⟨%f9, %hf9, H9⟩, Hk⟩
  subst hf2 hf3 hf4 hf5
  sl_exec
  sl_step
  have hb : arg3.view.readAt (Elt Ideal) (Rect.unit (s := S1x3x2048) ![0, 0, 0] S1x1x2048.size inb_S1x3x2048_S1x1x2048_0_0_0).toLoadRect f3 = shiftOf (arg3.view.read (Elt Ideal) f3) := by
    funext z
    exact congrArg (arg3.view.read (Elt Ideal) f3) (funext fun r => Fin.ext (by
      have hz0 : (z 0).val = 0 := Nat.lt_one_iff.mp (z 0).isLt
      have hz1 : (z 1).val = 0 := Nat.lt_one_iff.mp (z 1).isLt
      fin_cases r
      · show 0 + 1 * (z 0).val = 0; omega
      · show 0 + 1 * (z 1).val = 0; omega
      · show 0 + 1 * (z 2).val = (z 2).val; omega))
  have hs : arg3.view.readAt (Elt Ideal) (Rect.unit (s := S1x3x2048) ![0, 1, 0] S1x1x2048.size inb_S1x3x2048_S1x1x2048_0_1_0).toLoadRect f3 = scaleOf (arg3.view.read (Elt Ideal) f3) := by
    funext z
    exact congrArg (arg3.view.read (Elt Ideal) f3) (funext fun r => Fin.ext (by
      have hz0 : (z 0).val = 0 := Nat.lt_one_iff.mp (z 0).isLt
      have hz1 : (z 1).val = 0 := Nat.lt_one_iff.mp (z 1).isLt
      fin_cases r
      · show 0 + 1 * (z 0).val = 0; omega
      · show 1 + 1 * (z 1).val = 1; omega
      · show 0 + 1 * (z 2).val = (z 2).val; omega))
  have hg : arg4.view.readAt (Elt Ideal) (Rect.unit (s := S1x2048) ![0, 0] S1x2048.size inb_S1x2048_S1x2048_0_0).toLoadRect f4 = arg4.view.read (Elt Ideal) f4 :=
    (View.readAt_eq_ld _ _ _).trans (View.ld_unit_zero (by decide) _ _)
  have h9 : ∀ y, arg9.view.read (Elt Ideal) (arg9.view.writes (Elt Ideal) fL0 (run_first.sl.H9_4 c arg2 arg3 arg4 f2 f3 f4)) y
      = modulated (arg2.view.read (Elt Ideal) f2) (shiftOf (arg3.view.read (Elt Ideal) f3)) (scaleOf (arg3.view.read (Elt Ideal) f3)) (arg4.view.read (Elt Ideal) f4) y := by
    rw [← hb, ← hs, ← hg]
    sl_unfold_words
    intro y
    exact late_rows arg2 arg9 0 fL0 f2 _ _ _ hL1 y (Nat.zero_le _) (y 0).isLt
  have hc : ∀ x, arg9.view.readCov (run_first.sl.H9_4 c arg2 arg3 arg4 f2 f3 f4) (Rect.unit (s := S1024x2048) ![512, 0] S512x2048.size inb_S1024x2048_S512x2048_512_0).toLoadRect x
      = modulated (arg2.view.read (Elt Ideal) f2) (shiftOf (arg3.view.read (Elt Ideal) f3)) (scaleOf (arg3.view.read (Elt Ideal) f3)) (arg4.view.read (Elt Ideal) f4)
        ((Rect.unit (s := S1024x2048) ![512, 0] S512x2048.size inb_S1024x2048_S512x2048_512_0).emb x) := by
    rw [← hb, ← hs, ← hg]
    sl_unfold_words
    intro x
    exact late_rows arg2 arg9 512 arg9.view.junk f2 _ _ _ (fun y h h' => absurd h (Nat.not_le_of_lt h')) _ (by show 512 ≤ 512 + 1 * (x 0).val; omega) (Fin.isLt _)
  have he : ∀ x, arg9.view.readAt (Elt Ideal) (Rect.unit (s := S1024x2048) ![0, 0] S512x2048.size inb_S1024x2048_S512x2048_0_0).toLoadRect fL0 x
      = modulated (arg2.view.read (Elt Ideal) f2) (shiftOf (arg3.view.read (Elt Ideal) f3)) (scaleOf (arg3.view.read (Elt Ideal) f3)) (arg4.view.read (Elt Ideal) f4)
        ((Rect.unit (s := S1024x2048) ![0, 0] S512x2048.size inb_S1024x2048_S512x2048_0_0).emb x) := by
    rw [← hb, ← hs, ← hg]
    intro x
    have hx : (x 0).val < 512 := (x 0).isLt
    exact hL1 _ (Nat.zero_le _) (by show 0 + 1 * (x 0).val < 512; omega)
  have hw : arg5.view.readAt (Elt Ideal) (Rect.unit (s := S1024x2048) ![0, 0] S1024x2048.size inb_S1024x2048_S1024x2048_0_0).toLoadRect f5 = arg5.view.read (Elt Ideal) f5 :=
    (View.readAt_eq_ld _ _ _).trans (View.ld_unit_zero (by decide) _ _)
  unfold run_first.sl.v108
  iapply Hk
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]
  · iexists _; isplitr; swap; · iexact H6
    ipureintro
    funext y
    have p0 := rows_step 0 arg6.view f6 [] (product (modulated (arg2.view.read (Elt Ideal) f2) (shiftOf (arg3.view.read (Elt Ideal) f3)) (scaleOf (arg3.view.read (Elt Ideal) f3)) (arg4.view.read (Elt Ideal) f4)) (arg5.view.read (Elt Ideal) f5))
      inb_S1024x1024_S512x1024_0_0 _ (W := 512) (o := 0) rfl rfl (fun y _ h => absurd h (Nat.not_lt_zero _)) (fun x => piece_early _ _ _ _ hw he x)
    exact rows_step 0 arg6.view f6 _ _ inb_S1024x1024_S512x1024_512_0 _ rfl rfl p0 (fun x => piece_late _ _ _ _ hw hc x) y (Nat.zero_le _) (y 0).isLt
  · iexists _; isplitr; swap; · iexact H9
    ipureintro
    exact funext h9

/-- A middle point of a tile: the block of the second result takes the products. -/
theorem run_middle (h1 : ¬ k0_cond1 i = 1#1) (h2 : k0_cond2 i = 1#1) (h3 : ¬ k0_cond3 i = 1#1) (h d : Rows) (x3 : Rows) (dO : S1024x1024.Idx → EReal) (E : Set ℕ) (K : PUnit → sProp 𝕄) (hd : d = h) :
    iprop(owns c arg5 fullShare x3 ∗ owns c arg7 fullShare dO ∗ owns c arg9 fullShare d
      ∗ ((owns c arg5 fullShare x3 ∗ owns c arg7 fullShare (product h x3) ∗ owns c arg9 fullShare h) -∗ K ⟨⟩))
    ⊢ wp frame (wpE (defs₀ (F := Ideal)) Variants.none (c : Thread nD τ) none) E
      (cc0_in_proj (F := Ideal) i arg2 harg2 arg3 harg3 arg4 harg4 arg5 harg5 arg6 harg6 arg7 harg7 arg8 harg8 arg9 harg9) K := by
  subst hd
  simp only [cc0_in_proj_eq_skeleton]
  unfold cc0_in_proj_skel
  unfold owns
  iintro ⟨⟨%f5, %hf5, H5⟩, ⟨%fO, %hfO, HO⟩, ⟨%f9, %hf9, H9⟩, Hk⟩
  subst hf5 hf9
  sl_exec
  sl_step
  iapply Hk
  isplitl [H5]; · iexists _; isplitr; swap; · iexact H5
                  ipureintro; rfl
  isplitl [HO]
  · iexists _; isplitr; swap; · iexact HO
    ipureintro
    rw [View.read_writes_full]
    refine (pay_whole _ _).trans ?_
    rw [View.readAt_eq_ld, View.readAt_eq_ld, View.ld_unit_zero (by decide), View.ld_unit_zero (by decide)]
  · iexists _; isplitr; swap; · iexact H9
    ipureintro; rfl

/-- A late point of a tile: the block of the third result takes the products. -/
theorem run_last (h1 : ¬ k0_cond1 i = 1#1) (h2 : ¬ k0_cond2 i = 1#1) (h3 : k0_cond3 i = 1#1) (h d : Rows) (x3 : Rows) (dO : S1024x1024.Idx → EReal) (E : Set ℕ) (K : PUnit → sProp 𝕄) (hd : d = h) :
    iprop(owns c arg5 fullShare x3 ∗ owns c arg8 fullShare dO ∗ owns c arg9 fullShare d
      ∗ ((owns c arg5 fullShare x3 ∗ owns c arg8 fullShare (product h x3) ∗ owns c arg9 fullShare h) -∗ K ⟨⟩))
    ⊢ wp frame (wpE (defs₀ (F := Ideal)) Variants.none (c : Thread nD τ) none) E
      (cc0_in_proj (F := Ideal) i arg2 harg2 arg3 harg3 arg4 harg4 arg5 harg5 arg6 harg6 arg7 harg7 arg8 harg8 arg9 harg9) K := by
  subst hd
  simp only [cc0_in_proj_eq_skeleton]
  unfold cc0_in_proj_skel
  unfold owns
  iintro ⟨⟨%f5, %hf5, H5⟩, ⟨%fO, %hfO, HO⟩, ⟨%f9, %hf9, H9⟩, Hk⟩
  subst hf5 hf9
  sl_exec
  sl_step
  iapply Hk
  isplitl [H5]; · iexists _; isplitr; swap; · iexact H5
                  ipureintro; rfl
  isplitl [HO]
  · iexists _; isplitr; swap; · iexact HO
    ipureintro
    rw [View.read_writes_full]
    refine (pay_gates _ _).trans ?_
    rw [View.readAt_eq_ld, View.readAt_eq_ld, View.ld_unit_zero (by decide), View.ld_unit_zero (by decide)]
  · iexists _; isplitr; swap; · iexact H9
    ipureintro; rfl
end

end Cert.InKernelIdeal.InRun

end
-- ==== Proof.InValue.lean ====
/- What the input projection computes, and that its kernel leaves it in the three result arrays. -/
module

public import proofs.«01_k».proof.Proof.InRun
public import Idealize.ShloMosaic.Lib.Pipeline.ArrRel
public import Idealize.ShloMosaic.Lib.Quiescent
public import proofs.«01_k».proof.Defs
public import proofs.«01_k».proof.Proof.Gen.InReferenceIdeal.Run

@[expose] public section

set_option maxRecDepth 16384

noncomputable section

namespace Cert.InValue

open Idealize.ShloMosaic

section
variable (x : (⟨2, ![16384, 2048]⟩ : Shape).Idx → EReal) (mod : (⟨3, ![4, 3, 2048]⟩ : Shape).Idx → EReal)
  (g : (⟨1, ![2048]⟩ : Shape).Idx → EReal) (w : (⟨2, ![6144, 2048]⟩ : Shape).Idx → EReal)

/-- Row `r` of the input, normalised and modulated. -/
def hidden (r : Fin 16384) (d : Fin 2048) : EReal :=
  x (ix2 r d) * Ideal.rsqrt (Ideal.div (∑ d : Fin 2048, x (ix2 r d) * x (ix2 r d)) (Ideal.ofBits .f32 0x45000000#32) + Ideal.ofBits .f32 0x358637BD#32)
    * g (ix1 d) * (1 + mod (ix3 ⟨r.val / 4096, by omega⟩ 1 d)) + mod (ix3 ⟨r.val / 4096, by omega⟩ 0 d)

/-- Row `r` of the projection. -/
def proj (r : Fin 16384) (n : Fin 6144) : EReal := ∑ k : Fin 2048, hidden x mod g r k * w (ix2 n k)

/-- The first result: the projection's first 1024 columns. -/
def small : (⟨2, ![16384, 1024]⟩ : Shape).Idx → EReal := fun y => proj x mod g w (y 0) ⟨(y 1).val, by have : (y 1).val < 1024 := (y 1).isLt; omega⟩

/-- The second result: the projection's next 3072 columns. -/
def heads : (⟨2, ![16384, 3072]⟩ : Shape).Idx → EReal := fun y => proj x mod g w (y 0) ⟨1024 + (y 1).val, by have : (y 1).val < 3072 := (y 1).isLt; omega⟩

/-- The third result: the projection's last 2048 columns. -/
def gates : (⟨2, ![16384, 2048]⟩ : Shape).Idx → EReal := fun y => proj x mod g w (y 0) ⟨4096 + (y 1).val, by have : (y 1).val < 2048 := (y 1).isLt; omega⟩

/-- The modulated rows of tile `s`. -/
def tileRows (s : Fin 16) : (⟨2, ![1024, 2048]⟩ : Shape).Idx → EReal := fun y => hidden x mod g ⟨1024 * s.val + (y 0).val, by have : (y 0).val < 1024 := (y 0).isLt; omega⟩ (y 1)

/-- Weight rows `1024 n` to `1024 n + 1023`. -/
def weightRows (n : Fin 6) : (⟨2, ![1024, 2048]⟩ : Shape).Idx → EReal := fun y => w (ix2 ⟨1024 * n.val + (y 0).val, by have : (y 0).val < 1024 := (y 0).isLt; omega⟩ (y 1))
end

end Cert.InValue

namespace Cert.InKernelIdeal.InValue

open Cert.InKernelIdeal Cert.InKernelIdeal.Gen Cert.InKernelIdeal.InRun Cert.InValue
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

/-! ## The schedule -/

theorem points (t : Fin cfg0.N) : t.val < 96 := t.isLt

theorem e0 : ∀ t : Fin cfg0.N, win0_0.index t = ![t.val / 6, 0] := (by decide +kernel : ∀ t : Fin grid0.N, _)
theorem e1 : ∀ t : Fin cfg0.N, win0_1.index t = ![t.val / 24, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val % 6, 0] := (by decide +kernel : ∀ t : Fin grid0.N, _)
theorem e4 : ∀ t : Fin cfg0.N, win0_4.index t = ![t.val / 6, 0] := (by decide +kernel : ∀ t : Fin grid0.N, _)
theorem e5 : ∀ t : Fin cfg0.N, win0_5.index t = ![t.val / 6, min (t.val % 6 - 1) 2] := (by decide +kernel : ∀ t : Fin grid0.N, _)
theorem e6 : ∀ t : Fin cfg0.N, win0_6.index t = ![t.val / 6, t.val % 6 / 5] := (by decide +kernel : ∀ t : Fin grid0.N, _)

theorem cond1_iff : ∀ t : Fin cfg0.N, k0_cond1 (grid0.coords t) = 1#1 ↔ t.val % 6 = 0 := (by decide +kernel : ∀ t : Fin grid0.N, _)
theorem cond2_iff : ∀ t : Fin cfg0.N, k0_cond2 (grid0.coords t) = 1#1 ↔ 1 ≤ t.val % 6 ∧ t.val % 6 < 4 := (by decide +kernel : ∀ t : Fin grid0.N, _)
theorem cond3_iff : ∀ t : Fin cfg0.N, k0_cond3 (grid0.coords t) = 1#1 ↔ 4 ≤ t.val % 6 := (by decide +kernel : ∀ t : Fin grid0.N, _)

theorem flush4_iff : ∀ t : Fin cfg0.N, (cfg0.win 4).flush t = true ↔ t.val % 6 = 5 := (by decide +kernel : ∀ t : Fin grid0.N, _)
theorem flush5_iff : ∀ t : Fin cfg0.N, (cfg0.win 5).flush t = true ↔ t.val % 6 = 1 ∨ t.val % 6 = 2 ∨ t.val % 6 = 5 := (by decide +kernel : ∀ t : Fin grid0.N, _)
theorem flush6_iff : ∀ t : Fin cfg0.N, (cfg0.win 6).flush t = true ↔ 4 ≤ t.val % 6 := (by decide +kernel : ∀ t : Fin grid0.N, _)
theorem fetch4 : ∀ t : Fin cfg0.N, (cfg0.win 4).fetch t = false := (by decide +kernel : ∀ t : Fin grid0.N, _)
theorem fetch5 : ∀ t : Fin cfg0.N, (cfg0.win 5).fetch t = false := (by decide +kernel : ∀ t : Fin grid0.N, _)
theorem fetch6 : ∀ t : Fin cfg0.N, (cfg0.win 6).fetch t = false := (by decide +kernel : ∀ t : Fin grid0.N, _)

/-- The tile of point `t`. -/
def tileOf (t : Fin cfg0.N) : Fin 16 := ⟨t.val / 6, by have := points t; omega⟩

/-- The column block of point `t`. -/
def colOf (t : Fin cfg0.N) : Fin 6 := ⟨t.val % 6, by omega⟩

variable (m : (ℓ : Loc nD τ sig) → Buf (Elt Ideal) ℓ) (c : Dev nD)

/-- The modulated rows of tile `s`, of the arguments. -/
abbrev tile (s : Fin 16) : Rows := tileRows (m ((c : Thread nD τ).loc main_arg0)) (m ((c : Thread nD τ).loc main_arg1)) (m ((c : Thread nD τ).loc main_arg2)) s

/-- Block `n` of the weight rows, of the arguments. -/
abbrev weights (n : Fin 6) : Rows := weightRows (m ((c : Thread nD τ).loc main_arg3)) n

/-! ## The blocks the body is handed -/

theorem V_g : V (F := Ideal) m c main_v0 = (shapeCast S1x2048 (m ((c : Thread nD τ).loc main_arg2) : FVec Ideal S2048 .f32) shapeCasts_S2048_S1x2048 : FVec Ideal S1x2048 .f32) := by
  dsimp only [V]
  after_results <;> rfl

theorem blk0 (t : Fin cfg0.N) (i : Fin 1024) (k : Fin 2048) (r : Fin 16384) (h : r.val = 1024 * (t.val / 6) + i.val) :
    iblk m c 0 t (ix2 i k) = m ((c : Thread nD τ).loc main_arg0) (ix2 r k) := by
  blk_simp [iblk]
  rw [V_main_arg0]
  congr 1
  blk_ext [e0]
theorem blk1 (t : Fin cfg0.N) (j : Fin 3) (k : Fin 2048) (b : Fin 4) (h : b.val = t.val / 24) :
    iblk m c 1 t (ix3 0 j k) = m ((c : Thread nD τ).loc main_arg1) (ix3 b j k) := by
  blk_simp [iblk]
  rw [V_main_arg1]
  congr 1
  blk_ext [e1]
theorem blk2 (t : Fin cfg0.N) (k : Fin 2048) :
    iblk m c 2 t (ix2 0 k) = m ((c : Thread nD τ).loc main_arg2) (ix1 k) := by
  blk_simp [iblk]
  rw [V_g]
  have : (win0_2.blk t).view.emb (ix2 0 k) = (ix2 0 k : S1x2048.Idx) := by blk_ext [e2]
  rw [this]
  pointwise
theorem blk3 (t : Fin cfg0.N) : iblk m c 3 t = weights m c (colOf t) := by
  funext y
  obtain ⟨i, k, rfl⟩ : ∃ (i : Fin 1024) (k : Fin 2048), y = ix2 i k := ⟨y 0, y 1, eq_ix2 y⟩
  blk_simp [iblk]
  rw [V_main_arg3]
  show _ = m ((c : Thread nD τ).loc main_arg3) (ix2 ⟨1024 * (t.val % 6) + i.val, by omega⟩ k)
  congr 1
  blk_ext [e3]

theorem modulated_at (x0 : Rows) (x1 : S1x3x2048.Idx → EReal) (x2 : Line) (x : S16384x2048.Idx → EReal) (mod : S4x3x2048.Idx → EReal) (g : S2048.Idx → EReal)
    (r : Fin 16384) (i : Fin 1024) (k : Fin 2048) (h0 : ∀ d, x0 (ix2 i d) = x (ix2 r d)) (h2 : x2 (ix2 0 k) = g (ix1 k))
    (h1 : x1 (ix3 0 1 k) = mod (ix3 ⟨r.val / 4096, by omega⟩ 1 k)) (h1' : x1 (ix3 0 0 k) = mod (ix3 ⟨r.val / 4096, by omega⟩ 0 k)) :
    modulated x0 (shiftOf x1) (scaleOf x1) x2 (ix2 i k) = hidden x mod g r k := by
  show x0 (ix2 i k) * Ideal.rsqrt (Ideal.div (∑ d : Fin 2048, x0 (ix2 i d) * x0 (ix2 i d)) (Ideal.ofBits .f32 0x45000000#32) + Ideal.ofBits .f32 0x358637BD#32)
    * x2 (ix2 0 k) * (1 + x1 (ix3 0 1 k)) + x1 (ix3 0 0 k) = _
  simp only [h0, h2, h1, h1']
  rfl

/-- The rows the body modulates at a tile's first point are the tile's. -/
theorem modulated_blocks (t : Fin cfg0.N) :
    modulated (iblk m c 0 t) (shiftOf (iblk m c 1 t)) (scaleOf (iblk m c 1 t)) (iblk m c 2 t) = tile m c (tileOf t) := by
  have ht := points t
  funext y
  obtain ⟨i, k, rfl⟩ : ∃ (i : Fin 1024) (k : Fin 2048), y = ix2 i k := ⟨y 0, y 1, eq_ix2 y⟩
  have h0 : ∀ d, iblk m c 0 t (ix2 i d) = m ((c : Thread nD τ).loc main_arg0) (ix2 ⟨1024 * (t.val / 6) + i.val, by omega⟩ d) := fun d => blk0 m c t i d _ rfl
  have h1 : ∀ j, iblk m c 1 t (ix3 0 j k) = m ((c : Thread nD τ).loc main_arg1) (ix3 ⟨(1024 * (t.val / 6) + i.val) / 4096, by omega⟩ j k) :=
    fun j => blk1 m c t j k _ (by show (1024 * (t.val / 6) + i.val) / 4096 = t.val / 24; omega)
  exact modulated_at _ _ _ _ _ _ ⟨1024 * (t.val / 6) + i.val, by omega⟩ i k h0 (blk2 m c t k) (h1 1) (h1 0)

/-! ## What the body leaves -/

/-- What the body leaves in each window's block: an input's block as it was, a result's block its products once the tile has come to it. -/
def leaves (w : Fin cfg0.W) (t : Fin cfg0.N) : (Y X : (cfg0.win w).block.Idx → Elt Ideal (cfg0.win w).elt) → Prop :=
  match w with
  | ⟨0, _⟩ => fun Y X => X = Y
  | ⟨1, _⟩ => fun Y X => X = Y
  | ⟨2, _⟩ => fun Y X => X = Y
  | ⟨3, _⟩ => fun Y X => X = Y
  | ⟨4, _⟩ => fun _ X => X = product (tile m c (tileOf t)) (weights m c 0)
  | ⟨5, _⟩ => fun _ X => 1 ≤ t.val % 6 → X = product (tile m c (tileOf t)) (weights m c ⟨min 3 (t.val % 6), by omega⟩)
  | ⟨6, _⟩ => fun _ X => 4 ≤ t.val % 6 → X = product (tile m c (tileOf t)) (weights m c (colOf t))
  | ⟨_ + 7, h⟩ => absurd h (Nat.not_lt_of_le (Nat.le_add_left 7 _))

abbrev scM : Memref sig .tc .vmem S1024x2048 .bf16 := Memref.whole cc0_scratch0

/-- The scratch between the points: within a tile it holds the tile's modulated rows. -/
def kept (s : ℕ) : sProp 𝕄 :=
  iprop((∃ d : Rows, ⌜∀ u : Fin 16, u.val = s / 6 → s % 6 ≠ 0 → d = tile m c u⌝ ∗ owns (c : Thread nD τ) scM fullShare d) ∗ ∃ r, prngReg c r)

def rdat : RDat τ (Elt Ideal) Unit ℕ (UR sig nD τ) ℕ cfg0 c where
  A w := V m c (Pipeline.arrRef spec0 w)
  after := leaves m c
  Φ s := kept m c s.val
  q _ := fullShare
  owed _ := 0

theorem finds0 (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds1 (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl
theorem finds2 (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rfl
theorem finds3 (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rfl

/-- After a tile's first point the first result's block is still what that point left. -/
theorem finds4 (t : Fin cfg0.N) (Y) (h : (rdat m c).Finds 4 t Y) (hj : t.val % 6 ≠ 0) : Y = product (tile m c (tileOf t)) (weights m c 0) := by
  rcases ((rdat m c).finds_of_pos (fetch4 t) (by omega) Y).mp h with hf | ⟨Z, -, hZ⟩
  · have : (t.val - 1) % 6 = 5 := (flush4_iff _).mp hf
    omega
  · have hZ' : Y = product (tile m c (tileOf ⟨t.val - 1, Nat.lt_of_le_of_lt (Nat.sub_le _ _) t.isLt⟩)) (weights m c 0) := hZ
    rw [hZ']
    congr 2
    exact Fin.ext (by show (t.val - 1) / 6 = t.val / 6; omega)

/-- At a tile's last two points the second result's last block is still what the point before left. -/
theorem finds5 (t : Fin cfg0.N) (Y) (h : (rdat m c).Finds 5 t Y) (hj : 4 ≤ t.val % 6) : Y = product (tile m c (tileOf t)) (weights m c 3) := by
  rcases ((rdat m c).finds_of_pos (fetch5 t) (by omega) Y).mp h with hf | ⟨Z, -, hZ⟩
  · have : (t.val - 1) % 6 = 1 ∨ (t.val - 1) % 6 = 2 ∨ (t.val - 1) % 6 = 5 := (flush5_iff _).mp hf
    omega
  · have hZ' : 1 ≤ (t.val - 1) % 6 → Y = product (tile m c (tileOf ⟨t.val - 1, Nat.lt_of_le_of_lt (Nat.sub_le _ _) t.isLt⟩)) (weights m c ⟨min 3 ((t.val - 1) % 6), by omega⟩) := hZ
    rw [hZ' (by omega)]
    congr 2
    · exact Fin.ext (by show (t.val - 1) / 6 = t.val / 6; omega)
    · exact Fin.ext (by show min 3 ((t.val - 1) % 6) = 3; omega)

theorem defs₀_row (t : Fin cfg0.N) : defs₀ (F := Ideal) .tc cfg0.body (cfg0.bodyArgs t (cfg0.slots t)) = bodyAt0 t := by
  unfold defs₀; rw [Defs.onTc_tc]

/-- The class's invariant, with the scratch as a memref. -/
theorem PhiA_eq : (Pipeline.ΦA spec0 c : sProp 𝕄) = iprop((∃ d, owns (c : Thread nD τ) scM fullShare d) ∗ ∃ r, prngReg c r) := by
  unfold Pipeline.ΦA; rw [scopedRest0_eq]; simp only [scM, owns_whole]; rfl

theorem kept_first : (Pipeline.ΦA spec0 c : sProp 𝕄) ⊢ (rdat m c).Φ 0 := by
  rw [PhiA_eq]
  show _ ⊢ kept m c 0
  unfold kept
  iintro ⟨⟨%d, HS⟩, HR⟩
  isplitl [HS]
  · iexists _; isplitr; swap; · iexact HS
    ipureintro; exact fun u _ h => absurd rfl h
  · iexact HR

theorem kept_last : (rdat m c).Φ (Fin.last cfg0.N) ⊢ (Pipeline.ΦA spec0 c : sProp 𝕄) := by
  rw [PhiA_eq]
  show kept m c _ ⊢ _
  unfold kept
  iintro ⟨⟨%d, -, HS⟩, HR⟩
  isplitl [HS]
  · iexists _; iexact HS
  · iexact HR

set_option maxHeartbeats 800000 in
/-- At every point the body takes the blocks the schedule hands it to blocks in the stated relation. -/
theorem obligation : (rdat m c).BodyObligation (defs₀ (F := Ideal)) Variants.none () Set.univ := by
  intro t Y hY
  rw [bigSep_W0, bigSep_W0, defs₀_row]
  have ht := points t
  have y0 := finds0 m c t _ (hY 0)
  have y1 := finds1 m c t _ (hY 1)
  have y2 := finds2 m c t _ (hY 2)
  have y3 : Y 3 = weights m c (colOf t) := (finds3 m c t _ (hY 3)).trans (blk3 m c t)
  show iprop(kept m c t.val ∗ _) ⊢ wp frame _ _ _ fun _ => iprop(kept m c (t.val + 1) ∗ _)
  unfold kept
  by_cases j0 : t.val % 6 = 0
  · have hm : modulated (Y 0) (shiftOf (Y 1)) (scaleOf (Y 1)) (Y 2) = tile m c (tileOf t) := by rw [y0, y1, y2]; exact modulated_blocks m c t
    iintro ⟨⟨⟨%d, %hd, HS⟩, HR⟩, HO, H0, H1, H2, H3, H4, H5, H6⟩
    iapply (run_first c (grid0.coords t) _ (hstage0_0 ((cfg0.slots t 0).cast nbuf0_0)) _ (hstage0_1 ((cfg0.slots t 1).cast nbuf0_1)) _ (hstage0_2 ((cfg0.slots t 2).cast nbuf0_2))
      _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6))
      _ (Memref.isWhole_whole cc0_scratch0) ((cond1_iff t).mpr j0) (fun h => by have := (cond2_iff t).mp h; omega) (fun h => by have := (cond3_iff t).mp h; omega)
      (Y 0) (Y 1) (Y 2) (Y 3) (Y 4) d Set.univ _)
    isplitl [H0]; · iexact H0
    isplitl [H1]; · iexact H1
    isplitl [H2]; · iexact H2
    isplitl [H3]; · iexact H3
    isplitl [H4]; · iexact H4
    isplitl [HS]; · iexact HS
    rw [hm]
    iintro ⟨H0, H1, H2, H3, H4, HS⟩
    isplitl [HS HR]
    · isplitl [HS]
      · iexists _; isplitr; swap; · iexact HS
        ipureintro
        intro u hu _
        exact congrArg (tile m c) (Fin.ext (by rw [hu]; show t.val / 6 = (t.val + 1) / 6; omega))
      · iexact HR
    isplitl [HO]; · iexact HO
    isplitl [H0]; · iexists _; isplitr; swap; · iexact H0
                    ipureintro; exact rfl
    isplitl [H1]; · iexists _; isplitr; swap; · iexact H1
                    ipureintro; exact rfl
    isplitl [H2]; · iexists _; isplitr; swap; · iexact H2
                    ipureintro; exact rfl
    isplitl [H3]; · iexists _; isplitr; swap; · iexact H3
                    ipureintro; exact rfl
    isplitl [H4]
    · iexists _; isplitr; swap; · iexact H4
      ipureintro
      show product _ _ = product _ _
      rw [y3]
      exact congrArg (fun n => product _ (weights m c n)) (Fin.ext j0)
    isplitl [H5]
    · iexists _; isplitr; swap; · iexact H5
      ipureintro
      exact fun h => absurd h (by omega)
    · iexists _; isplitr; swap; · iexact H6
      ipureintro
      exact fun h => absurd h (by omega)
  · by_cases j4 : 4 ≤ t.val % 6
    · iintro ⟨⟨⟨%d, %hd, HS⟩, HR⟩, HO, H0, H1, H2, H3, H4, H5, H6⟩
      have hd' : d = tile m c (tileOf t) := hd (tileOf t) rfl j0
      iapply (run_last c (grid0.coords t) _ (hstage0_0 ((cfg0.slots t 0).cast nbuf0_0)) _ (hstage0_1 ((cfg0.slots t 1).cast nbuf0_1)) _ (hstage0_2 ((cfg0.slots t 2).cast nbuf0_2))
        _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6))
        _ (Memref.isWhole_whole cc0_scratch0) (fun h => j0 ((cond1_iff t).mp h)) (fun h => by have := (cond2_iff t).mp h; omega) ((cond3_iff t).mpr j4)
        (tile m c (tileOf t)) d (Y 3) (Y 6) Set.univ _ hd')
      isplitl [H3]; · iexact H3
      isplitl [H6]; · iexact H6
      isplitl [HS]; · iexact HS
      iintro ⟨H3, H6, HS⟩
      isplitl [HS HR]
      · isplitl [HS]
        · iexists _; isplitr; swap; · iexact HS
          ipureintro
          intro u hu h
          exact congrArg (tile m c) (Fin.ext (by rw [hu]; show t.val / 6 = (t.val + 1) / 6; omega))
        · iexact HR
      isplitl [HO]; · iexact HO
      isplitl [H0]; · iexists _; isplitr; swap; · iexact H0
                      ipureintro; exact rfl
      isplitl [H1]; · iexists _; isplitr; swap; · iexact H1
                      ipureintro; exact rfl
      isplitl [H2]; · iexists _; isplitr; swap; · iexact H2
                      ipureintro; exact rfl
      isplitl [H3]; · iexists _; isplitr; swap; · iexact H3
                      ipureintro; exact rfl
      isplitl [H4]
      · iexists _; isplitr; swap; · iexact H4
        ipureintro
        exact finds4 m c t _ (hY 4) j0
      isplitl [H5]
      · iexists _; isplitr; swap; · iexact H5
        ipureintro
        intro _
        refine (finds5 m c t _ (hY 5) j4).trans (congrArg (fun n => product _ (weights m c n)) (Fin.ext ?_))
        show 3 = min 3 (t.val % 6)
        omega
      · iexists _; isplitr; swap; · iexact H6
        ipureintro
        intro _
        show product _ _ = product _ _
        rw [y3]
    · iintro ⟨⟨⟨%d, %hd, HS⟩, HR⟩, HO, H0, H1, H2, H3, H4, H5, H6⟩
      have hd' : d = tile m c (tileOf t) := hd (tileOf t) rfl j0
      iapply (run_middle c (grid0.coords t) _ (hstage0_0 ((cfg0.slots t 0).cast nbuf0_0)) _ (hstage0_1 ((cfg0.slots t 1).cast nbuf0_1)) _ (hstage0_2 ((cfg0.slots t 2).cast nbuf0_2))
        _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6))
        _ (Memref.isWhole_whole cc0_scratch0) (fun h => j0 ((cond1_iff t).mp h)) ((cond2_iff t).mpr (by omega)) (fun h => j4 ((cond3_iff t).mp h))
        (tile m c (tileOf t)) d (Y 3) (Y 5) Set.univ _ hd')
      isplitl [H3]; · iexact H3
      isplitl [H5]; · iexact H5
      isplitl [HS]; · iexact HS
      iintro ⟨H3, H5, HS⟩
      isplitl [HS HR]
      · isplitl [HS]
        · iexists _; isplitr; swap; · iexact HS
          ipureintro
          intro u hu h
          exact congrArg (tile m c) (Fin.ext (by rw [hu]; show t.val / 6 = (t.val + 1) / 6; omega))
        · iexact HR
      isplitl [HO]; · iexact HO
      isplitl [H0]; · iexists _; isplitr; swap; · iexact H0
                      ipureintro; exact rfl
      isplitl [H1]; · iexists _; isplitr; swap; · iexact H1
                      ipureintro; exact rfl
      isplitl [H2]; · iexists _; isplitr; swap; · iexact H2
                      ipureintro; exact rfl
      isplitl [H3]; · iexists _; isplitr; swap; · iexact H3
                      ipureintro; exact rfl
      isplitl [H4]
      · iexists _; isplitr; swap; · iexact H4
        ipureintro
        exact finds4 m c t _ (hY 4) j0
      isplitl [H5]
      · iexists _; isplitr; swap; · iexact H5
        ipureintro
        intro _
        show product _ _ = product _ _
        rw [y3]
        refine congrArg (fun n => product _ (weights m c n)) (Fin.ext ?_)
        show t.val % 6 = min 3 (t.val % 6)
        omega
      · iexists _; isplitr; swap; · iexact H6
        ipureintro
        exact fun h => absurd h j4

/-! ## The run -/

/-- The products of a tile's rows with a block of weight rows are the projection there. -/
theorem product_at (s : Fin 16) (n : Fin 6) (i j : Fin 1024) (r : Fin 16384) (k : Fin 6144) (hr : r.val = 1024 * s.val + i.val) (hk : k.val = 1024 * n.val + j.val) :
    product (tile m c s) (weights m c n) (ix2 i j)
      = proj (m ((c : Thread nD τ).loc main_arg0)) (m ((c : Thread nD τ).loc main_arg1)) (m ((c : Thread nD τ).loc main_arg2)) (m ((c : Thread nD τ).loc main_arg3)) r k := by
  obtain ⟨r, hr'⟩ := r
  obtain ⟨k, hk'⟩ := k
  simp only at hr hk
  subst hr hk
  rfl

variable {m c} in
/-- The relation the body left a flushed block in. -/
theorem left_of {w : Fin cfg0.W} {t : Fin cfg0.N} {X} (h : (rdat m c).Leaves w t X) : ∃ Y, leaves m c w t Y X := by
  obtain ⟨Y, -, hY⟩ := h
  exact ⟨Y, hY⟩

theorem final4 (aft : (w : Fin cfg0.W) → Fin cfg0.N → (cfg0.win w).block.Idx → Elt Ideal (cfg0.win w).elt)
    (hL : ∀ (w : Fin cfg0.W) (u : Fin cfg0.N), (cfg0.win w).flush u = true → (rdat m c).Leaves w u (aft w u)) :
    ((rdat m c).withAfter aft).arrAt 4 cfg0.N
      = small (m ((c : Thread nD τ).loc main_arg0)) (m ((c : Thread nD τ).loc main_arg1)) (m ((c : Thread nD τ).loc main_arg2)) (m ((c : Thread nD τ).loc main_arg3)) := by
  refine ((rdat m c).withAfter aft).arrAt_eq_of_covers 4 _ (by decide +kernel) fun t hf y => ?_
  have ht := points t
  have hj := (flush4_iff t).mp hf
  obtain ⟨_, hX⟩ := left_of (hL 4 t hf)
  have hX : aft 4 t = product (tile m c (tileOf t)) (weights m c 0) := hX
  blk_simp
  rw [show ((rdat m c).withAfter aft).after 4 t = _ from hX]
  obtain ⟨i, n, rfl⟩ : ∃ (i n : Fin 1024), y = ix2 i n := ⟨y 0, y 1, eq_ix2 y⟩
  have he : (win0_4.blk t).view.emb (ix2 i n) = ix2 (⟨1024 * (t.val / 6) + i.val, by omega⟩ : Fin 16384) n := by blk_ext [e4]
  rw [he]
  exact product_at m c _ _ _ _ _ _ rfl (by show n.val = 1024 * 0 + n.val; omega)

theorem final5 (aft : (w : Fin cfg0.W) → Fin cfg0.N → (cfg0.win w).block.Idx → Elt Ideal (cfg0.win w).elt)
    (hL : ∀ (w : Fin cfg0.W) (u : Fin cfg0.N), (cfg0.win w).flush u = true → (rdat m c).Leaves w u (aft w u)) :
    ((rdat m c).withAfter aft).arrAt 5 cfg0.N
      = heads (m ((c : Thread nD τ).loc main_arg0)) (m ((c : Thread nD τ).loc main_arg1)) (m ((c : Thread nD τ).loc main_arg2)) (m ((c : Thread nD τ).loc main_arg3)) := by
  refine ((rdat m c).withAfter aft).arrAt_eq_of_covers 5 _ (by decide +kernel) fun t hf y => ?_
  have ht := points t
  have hj := (flush5_iff t).mp hf
  obtain ⟨_, hX⟩ := left_of (hL 5 t hf)
  have hX : aft 5 t = product (tile m c (tileOf t)) (weights m c ⟨min 3 (t.val % 6), by omega⟩) := hX (by omega)
  blk_simp
  rw [show ((rdat m c).withAfter aft).after 5 t = _ from hX]
  obtain ⟨i, n, rfl⟩ : ∃ (i n : Fin 1024), y = ix2 i n := ⟨y 0, y 1, eq_ix2 y⟩
  have he : (win0_5.blk t).view.emb (ix2 i n) = ix2 (⟨1024 * (t.val / 6) + i.val, by omega⟩ : Fin 16384) (⟨1024 * min (t.val % 6 - 1) 2 + n.val, by omega⟩ : Fin 3072) := by blk_ext [e5]
  rw [he]
  exact product_at m c _ _ _ _ _ _ rfl (by show 1024 + (1024 * min (t.val % 6 - 1) 2 + n.val) = 1024 * min 3 (t.val % 6) + n.val; omega)

theorem final6 (aft : (w : Fin cfg0.W) → Fin cfg0.N → (cfg0.win w).block.Idx → Elt Ideal (cfg0.win w).elt)
    (hL : ∀ (w : Fin cfg0.W) (u : Fin cfg0.N), (cfg0.win w).flush u = true → (rdat m c).Leaves w u (aft w u)) :
    ((rdat m c).withAfter aft).arrAt 6 cfg0.N
      = gates (m ((c : Thread nD τ).loc main_arg0)) (m ((c : Thread nD τ).loc main_arg1)) (m ((c : Thread nD τ).loc main_arg2)) (m ((c : Thread nD τ).loc main_arg3)) := by
  refine ((rdat m c).withAfter aft).arrAt_eq_of_covers 6 _ (by decide +kernel) fun t hf y => ?_
  have ht := points t
  have hj := (flush6_iff t).mp hf
  obtain ⟨_, hX⟩ := left_of (hL 6 t hf)
  have hX : aft 6 t = product (tile m c (tileOf t)) (weights m c (colOf t)) := hX hj
  blk_simp
  rw [show ((rdat m c).withAfter aft).after 6 t = _ from hX]
  obtain ⟨i, n, rfl⟩ : ∃ (i n : Fin 1024), y = ix2 i n := ⟨y 0, y 1, eq_ix2 y⟩
  have he : (win0_6.blk t).view.emb (ix2 i n) = ix2 (⟨1024 * (t.val / 6) + i.val, by omega⟩ : Fin 16384) (⟨1024 * (t.val % 6 / 5) + n.val, by omega⟩ : Fin 2048) := by blk_ext [e6]
  rw [he]
  exact product_at m c _ _ _ _ _ _ rfl (by show 4096 + (1024 * (t.val % 6 / 5) + n.val) = 1024 * (t.val % 6) + n.val; omega)

set_option backward.isDefEq.respectTransparency.types false in
set_option maxHeartbeats 800000 in
/-- The run, with what its arrays may hold at the end and its counters at zero. -/
theorem run_arrays (ρ : Dev nD → PrngReg) : θ_run defs (onTc (τ := τ) (main (F := Ideal))) (s₀ m ρ)
    (fun r => Pipeline.RDat.FramePost (cfgs 0) (rdat m) (V m) r ∧ r.2.sem = fun _ => 0) :=
  Pipeline.RDat.θ_run_frame_track cfgs (0 : Fin 1) launch0 defs₀ Variants.none (rdat m) m ρ (main (F := Ideal)) (hbody := fun c => obligation m c)
    (hshare := fun c w => by unfold Pipeline.RDat.share; split <;> rfl) (howed := fun _ _ => rfl) (V := V m) (hmain := hmain m Variants.none) (hA := fun _ _ => rfl)
    (hin := fun c => kept_first m c) (hout := fun c => kept_last m c)
    (Q' := fun r => Pipeline.RDat.FramePost (cfgs 0) (rdat m) (V m) r ∧ r.2.sem = fun _ => 0) (hQ' := fun _ h => h)

/-- The run leaves the projection in the three results and the arguments as they were. -/
theorem run (ρ : Dev nD → PrngReg) : θ_run defs (onTc (τ := τ) (main (F := Ideal))) ⟨m, fun _ => 0, ρ⟩ (fun r => (∀ c : Dev nD,
      r.2.mem ((c.tc : Thread nD τ).loc main_v1_0) = small (m ((c : Thread nD τ).loc main_arg0)) (m ((c : Thread nD τ).loc main_arg1)) (m ((c : Thread nD τ).loc main_arg2)) (m ((c : Thread nD τ).loc main_arg3))
      ∧ r.2.mem ((c.tc : Thread nD τ).loc main_v1_1) = heads (m ((c : Thread nD τ).loc main_arg0)) (m ((c : Thread nD τ).loc main_arg1)) (m ((c : Thread nD τ).loc main_arg2)) (m ((c : Thread nD τ).loc main_arg3))
      ∧ r.2.mem ((c.tc : Thread nD τ).loc main_v1_2) = gates (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  refine (θ_run defs _ _).mono (fun r h => ⟨fun c => ?_, h.2⟩) (run_arrays m ρ)
  obtain ⟨h, -⟩ := h
  obtain ⟨aft, hL, hA⟩ := Pipeline.RDat.FramePost.exists_exact h c
  exact ⟨(hA 4).trans (final4 m c aft hL), (hA 5).trans (final5 m c aft hL), (hA 6).trans (final6 m c aft hL),
    (Pipeline.RDat.FramePost.arr_in h c 0 rfl).trans (V_main_arg0 m c), (Pipeline.RDat.FramePost.arr_in h c 1 rfl).trans (V_main_arg1 m c),
    ((h c).2 main_arg2 (Pipeline.mem_restRefs_of main_arg2 (by decide) (by decide))).trans (V_main_arg2 m c),
    (Pipeline.RDat.FramePost.arr_in h c 3 rfl).trans (V_main_arg3 m c)⟩

end Cert.InKernelIdeal.InValue

namespace Cert.InReferenceIdeal.InValue

open Cert.InReferenceIdeal Cert.InReferenceIdeal.Gen Cert.InReferenceIdeal.Value Cert.InValue
open Idealize.ShloMosaic Idealize.ShloMosaic.TcCoe Idealize.ShloMosaic.Tactic

/-- The reference's product is the projection. -/
theorem dot_at (a0 : FVec Ideal S16384x2048 .f32) (a1 : FVec Ideal S4x3x2048 .f32) (a2 : FVec Ideal S2048 .f32) (a3 : FVec Ideal S6144x2048 .bf16) (r : Fin 16384) (n : Fin 6144) :
    ((Host.dotGeneral dot_S16384x2048_S2048x6144_S16384x6144_1_0_0_1_n_n none (shapeCast _ (addf (mulf (mulf (mulf (shapeCast S4x4096x2048 a0 shapeCasts_S16384x2048_S4x4096x2048) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (shapeCast S4x4096x2048 a0 shapeCasts_S16384x2048_S4x4096x2048) (shapeCast S4x4096x2048 a0 shapeCasts_S16384x2048_S4x4096x2048)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 a2))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (shapeCast _ (extractStridedSlice S4x1x2048 ![0, 1, 0] a1 slices_S4x3x2048_S4x1x2048_0_1_0) shapeCasts_S4x1x2048_S4x2048))))) (broadcastInDim S4x4096x2048 ![0, 1, 2] bcast_S4x1x2048_S4x4096x2048_0_1_2 (broadcastInDim S4x1x2048 ![0, 2] bcast_S4x2048_S4x1x2048_0_2 (shapeCast _ (extractStridedSlice S4x1x2048 ![0, 0, 0] a1 slices_S4x3x2048_S4x1x2048_0_0_0) shapeCasts_S4x1x2048_S4x2048)))) shapeCasts_S4x4096x2048_S16384x2048) (transpose S2048x6144 [1, 0] (extf .f32 a3 bitsLt_bf16_f32) transposes_S6144x2048_S2048x6144_1_0)) : S16384x6144.Idx → EReal) (ix2 r n) = proj a0 a1 a2 a3 r n := by
  pointwise
  rfl

theorem small_at (D : FVec Ideal S16384x6144 .f32) (r : Fin 16384) (n : Fin 1024) :
    (extractStridedSlice S16384x1024 ![0, 0] D slices_S16384x6144_S16384x1024_0_0 : S16384x1024.Idx → EReal) (ix2 r n) = D (ix2 r ⟨n.val, by omega⟩) := by
  pointwise
theorem heads_at (D : FVec Ideal S16384x6144 .f32) (r : Fin 16384) (n : Fin 3072) :
    (extractStridedSlice S16384x3072 ![0, 1024] D slices_S16384x6144_S16384x3072_0_1024 : S16384x3072.Idx → EReal) (ix2 r n) = D (ix2 r ⟨1024 + n.val, by omega⟩) := by
  pointwise
theorem gates_at (D : FVec Ideal S16384x6144 .f32) (r : Fin 16384) (n : Fin 2048) :
    (truncf .bf16 (extractStridedSlice S16384x2048 ![0, 4096] D slices_S16384x6144_S16384x2048_0_4096) bitsLt_bf16_f32 : S16384x2048.Idx → EReal) (ix2 r n) = D (ix2 r ⟨4096 + n.val, by omega⟩) := by
  pointwise

end Cert.InReferenceIdeal.InValue

/-! ## The claims -/

namespace Cert.Proof.InClaims

open Idealize.ShloMosaic

theorem frame_pi : Cert.quiescent_InKernelIdeal := fun m ρ _ =>
  (θ_run Cert.InKernelIdeal.defs _ _).mono (fun r h => ⟨fun c => (h.1 c).2.2.2, h.2⟩) (Cert.InKernelIdeal.InValue.run m ρ)
theorem frame_ri : Cert.quiescent_InReferenceIdeal := fun m ρ _ =>
  (θ_run Cert.InReferenceIdeal.defs _ _).mono (fun r h => ⟨fun c => (h c).2.2.2,
      Idealize.ShloMosaic.sem_eq_zero_of_no_sems (by decide) r.2⟩)
    (Cert.InReferenceIdeal.Value.run (F := Ideal) m ρ)
theorem preserves : Cert.preserves_InKernel_InKernelIdeal := trivial

/-- Both runs end with the projection in the three results: the kernel's by its blocks, the reference's by its operations. -/
theorem algebraic : Cert.algebraic_InKernelIdeal_InReferenceIdeal := by
  intro m ρ m' ρ' _ hagree
  refine ⟨_, _, _, (θ_run Cert.InKernelIdeal.defs _ _).mono (fun _ h c => h.1 c) (Cert.InKernelIdeal.InValue.run m ρ), ?_⟩
  refine (θ_run Cert.InReferenceIdeal.defs _ _).mono (fun _ h c => ⟨(h c).1.trans ?_, (h c).2.1.trans ?_, (h c).2.2.1.trans ?_, (h c).2.2.2⟩)
    (Cert.InReferenceIdeal.Value.run (F := Ideal) m' ρ')
  all_goals rw [(hagree c).1, (hagree c).2.1, (hagree c).2.2.1, (hagree c).2.2.2]
  · funext y
    obtain ⟨r, n, rfl⟩ : ∃ (r : Fin 16384) (n : Fin 1024), y = ix2 r n := ⟨y 0, y 1, eq_ix2 y⟩
    exact (Cert.InReferenceIdeal.InValue.small_at _ r n).trans (Cert.InReferenceIdeal.InValue.dot_at _ _ _ _ r _)
  · funext y
    obtain ⟨r, n, rfl⟩ : ∃ (r : Fin 16384) (n : Fin 3072), y = ix2 r n := ⟨y 0, y 1, eq_ix2 y⟩
    exact (Cert.InReferenceIdeal.InValue.heads_at _ r n).trans (Cert.InReferenceIdeal.InValue.dot_at _ _ _ _ r _)
  · funext y
    obtain ⟨r, n, rfl⟩ : ∃ (r : Fin 16384) (n : Fin 2048), y = ix2 r n := ⟨y 0, y 1, eq_ix2 y⟩
    exact (Cert.InReferenceIdeal.InValue.gates_at _ r n).trans (Cert.InReferenceIdeal.InValue.dot_at _ _ _ _ r _)

end Cert.Proof.InClaims

end
-- ==== Proof.PrepTile.lean ====
/- What the query blocks of the attention's preparation hold: the pieces the body stores, read at an index. -/
module

public import proofs.«01_k».proof.Proof.Gen.PrepKernelIdeal.Skeleton
public import Idealize.ShloMosaic.Lib.Pipeline.ValueKit.Tiles
public import Idealize.ShloMosaic.Lib.Pointwise

@[expose] public section

set_option maxRecDepth 16384

noncomputable section

namespace Cert.PrepKernelIdeal.PrepTile

open Cert.PrepKernelIdeal Cert.PrepKernelIdeal.Gen
open Idealize.ShloMosaic Idealize.ShloMosaic.TcCoe

section
variable (M : S1024x1024.Idx → EReal)

/-- Head `h`'s row `r` of the indexer's queries, its first 16 rows rotated. -/
def idxRow (cs sn : S8x1024.Idx → EReal) (h : Fin 16) (r : Fin 64) (j : Fin 1024) : EReal :=
  if h1 : r.val < 8 then
    M (ix2 ⟨64 * h.val + r.val, by omega⟩ j) * cs (ix2 ⟨r.val, h1⟩ j) - M (ix2 ⟨64 * h.val + 8 + r.val, by omega⟩ j) * sn (ix2 ⟨r.val, h1⟩ j)
  else if h2 : r.val < 16 then
    M (ix2 ⟨64 * h.val + r.val, by omega⟩ j) * cs (ix2 ⟨r.val - 8, by omega⟩ j) + M (ix2 ⟨64 * h.val + (r.val - 8), by omega⟩ j) * sn (ix2 ⟨r.val - 8, by omega⟩ j)
  else M (ix2 ⟨64 * h.val + r.val, by omega⟩ j)

/-- The indexer's block: block, row, head and lane. -/
def idxBlock (cs sn : S8x1024.Idx → EReal) (y : S8x64x2048.Idx) : EReal :=
  idxRow M cs sn ⟨(y 2).val / 128, by have : (y 2).val < 2048 := (y 2).isLt; omega⟩ (y 1)
    ⟨128 * (y 0).val + (y 2).val % 128, by have : (y 0).val < 8 := (y 0).isLt; omega⟩

/-- Head `h`'s rotated row `r` of the queries. -/
def rotRow (cs sn : S16x1024.Idx → EReal) (h : Fin 8) (r : Fin 32) (j : Fin 1024) : EReal :=
  if h1 : r.val < 16 then
    M (ix2 ⟨128 * h.val + r.val, by omega⟩ j) * cs (ix2 ⟨r.val, h1⟩ j) - M (ix2 ⟨128 * h.val + 16 + r.val, by omega⟩ j) * sn (ix2 ⟨r.val, h1⟩ j)
  else
    M (ix2 ⟨128 * h.val + r.val, by omega⟩ j) * cs (ix2 ⟨r.val - 16, by omega⟩ j) + M (ix2 ⟨128 * h.val + (r.val - 16), by omega⟩ j) * sn (ix2 ⟨r.val - 16, by omega⟩ j)

/-- Head `h`'s latent row `r` of the queries. -/
def latRow (w : S8x256x128.Idx → EReal) (h : Fin 8) (r : Fin 256) (j : Fin 1024) : EReal :=
  ∑ k : Fin 128, w (ix3 h r k) * M (ix2 ⟨128 * h.val + k.val, by omega⟩ j)

/-- The attention's block: block, half of the heads, row, and head and lane. -/
def catBlock (cs sn : S16x1024.Idx → EReal) (w : S8x256x128.Idx → EReal) (y : S8x2x288x512.Idx) : EReal :=
  let h : Fin 8 := ⟨4 * (y 1).val + (y 3).val / 128, by have : (y 1).val < 2 := (y 1).isLt; have : (y 3).val < 512 := (y 3).isLt; omega⟩
  let j : Fin 1024 := ⟨128 * (y 0).val + (y 3).val % 128, by have : (y 0).val < 8 := (y 0).isLt; omega⟩
  (if h1 : (y 2).val < 256 then latRow M w h ⟨(y 2).val, h1⟩ j
    else rotRow M cs sn h ⟨(y 2).val - 256, by have : (y 2).val < 288 := (y 2).isLt; omega⟩ j) * Ideal.ofBits .f32 0x3E0293EE#32
end

/-- A stored piece of the indexer's queries holds the block's values. -/
theorem idx_tile (M : FVec Ideal S1024x1024 .f32) (cs sn : FVec Ideal S8x1024 .f32) (y : S8x64x2048.Idx) (ob oc o p0 p1 p2 : ℕ) (hs hs0 hs1 hs2)
    (e0 : o = 128 * ob) (e1 : 2 * p0 = oc) (e2 : p1 = p0 + 8) (e3 : p2 = p0 + 16) (e4 : oc % 128 = 0) (e5 : oc < 2048) :
    View.TileAt (Val := Elt Ideal) (e := .bf16) y ![ob, 0, oc] ![1, 64, 128]
      (shapeCast S1x64x128 (extractStridedSlice S64x128 ![0, o] (truncf .bf16 (concatenate S64x1024 0
        [⟨S8x1024, subf (mulf (extractStridedSlice S8x1024 ![p0, 0] M hs0) cs) (mulf (extractStridedSlice S8x1024 ![p1, 0] M hs1) sn)⟩,
         ⟨S8x1024, addf (mulf (extractStridedSlice S8x1024 ![p1, 0] M hs1) cs) (mulf (extractStridedSlice S8x1024 ![p0, 0] M hs0) sn)⟩,
         ⟨S48x1024, extractStridedSlice S48x1024 ![p2, 0] M hs2⟩] concatenates_S8x1024_S8x1024_S48x1024_S64x1024_d0 : FVec Ideal S64x1024 .f32) bitsLt_bf16_f32) hs : FVec Ideal S64x128 .bf16) shapeCasts_S64x128_S1x64x128)
      (idxBlock M cs sn y) := by
  intro x hx
  obtain ⟨a, r, l, rfl⟩ : ∃ (a : Fin 1) (r : Fin 64) (l : Fin 128), x = ix3 a r l := ⟨x 0, x 1, x 2, eq_ix3 x⟩
  obtain ⟨b, r', q, rfl⟩ : ∃ (b : Fin 8) (r : Fin 64) (l : Fin 2048), y = ix3 b r l := ⟨y 0, y 1, y 2, eq_ix3 y⟩
  have x0 : b.val = ob + a.val := hx 0
  have x1 : r'.val = 0 + r.val := hx 1
  have x2 : q.val = oc + l.val := hx 2
  obtain rfl : r' = r := Fin.ext (by omega)
  obtain rfl : ob = b.val := by omega
  obtain rfl : p0 = 64 * (q.val / 128) := by omega
  subst e0 e2 e3
  have el : q.val % 128 = l.val := by omega
  pointwise
  show _ = idxRow M cs sn ⟨q.val / 128, _⟩ r' ⟨128 * b.val + q.val % 128, _⟩
  unfold idxRow
  simp only [el]
  by_cases h1 : r'.val < 8
  · simp only [h1, dif_pos]
  · by_cases h2 : r'.val < 16
    · have g1 : r'.val - 8 < 8 := by omega
      have g2 : 64 * (q.val / 128) + 8 + (r'.val - 8) = 64 * (q.val / 128) + r'.val := by omega
      simp only [h1, h2, g1, g2, dif_pos, dif_neg, not_false_eq_true]
    · have g1 : ¬ r'.val - 8 < 8 := by omega
      have g2 : 64 * (q.val / 128) + 16 + (r'.val - 8 - 8) = 64 * (q.val / 128) + r'.val := by omega
      simp only [h1, h2, g1, g2, dif_neg, not_false_eq_true]

/-- A stored piece of the queries' latent rows holds the block's values. -/
theorem lat_tile (M : FVec Ideal S1024x1024 .f32) (cs sn : FVec Ideal S16x1024 .f32) (w : S8x256x128.Idx → EReal) (W : FVec Ideal S1x256x128 .bf16)
    (y : S8x2x288x512.Idx) (n ob ou oc o p : ℕ) (hs hs0)
    (hW : ∀ (hn : n < 8) r k, W (ix3 0 r k) = w (ix3 ⟨n, hn⟩ r k))
    (e0 : o = 128 * ob) (e1 : p = 128 * n) (e2 : n = 4 * ou + oc / 128) (e4 : oc % 128 = 0) (e5 : oc < 512) (e6 : n < 8) :
    View.TileAt (Val := Elt Ideal) (e := .bf16) y ![ob, ou, 0, oc] ![1, 1, 256, 128]
      (shapeCast S1x1x256x128 (extractStridedSlice S256x128 ![0, o] (truncf .bf16 (mulf
        (matmul dot_S256x128_S128x1024_S256x1024_1_0_0_1_n_n none (shapeCast S256x128 W shapeCasts_S1x256x128_S256x128)
          (truncf .bf16 (extractStridedSlice S128x1024 ![p, 0] M hs0) bitsLt_bf16_f32) (constant S256x1024 .f32 0x00000000#32))
        (broadcast S256x1024 (Scalar.ofBits .f32 0x3E0293EE#32)) : FVec Ideal S256x1024 .f32) bitsLt_bf16_f32) hs : FVec Ideal S256x128 .bf16) shapeCasts_S256x128_S1x1x256x128)
      (catBlock M cs sn w y) := by
  intro x hx
  obtain ⟨a, u, r, l, rfl⟩ : ∃ (a : Fin 1) (u : Fin 1) (r : Fin 256) (l : Fin 128), x = ix4 a u r l := ⟨x 0, x 1, x 2, x 3, eq_ix4 x⟩
  obtain ⟨b, v, r', q, rfl⟩ : ∃ (b : Fin 8) (u : Fin 2) (r : Fin 288) (l : Fin 512), y = ix4 b u r l := ⟨y 0, y 1, y 2, y 3, eq_ix4 y⟩
  have x0 : b.val = ob + a.val := hx 0
  have x1 : v.val = ou + u.val := hx 1
  have x2 : r'.val = 0 + r.val := hx 2
  have x3 : q.val = oc + l.val := hx 3
  have hW := hW e6
  obtain rfl : ob = b.val := by omega
  obtain rfl : n = 4 * v.val + q.val / 128 := by omega
  subst e0 e1
  have el : q.val % 128 = l.val := by omega
  have h1 : r'.val < 256 := by omega
  obtain rfl : r = ⟨r'.val, h1⟩ := Fin.ext (by simp; omega)
  pointwise
  show _ = (if h1 : r'.val < 256 then latRow M w ⟨4 * v.val + q.val / 128, _⟩ ⟨r'.val, h1⟩ ⟨128 * b.val + q.val % 128, _⟩ else _) * _
  rw [dif_pos h1]
  unfold latRow
  simp only [el, hW]

/-- A stored piece of the queries' rotated rows holds the block's values. -/
theorem rot_tile (M : FVec Ideal S1024x1024 .f32) (cs sn : FVec Ideal S16x1024 .f32) (w : S8x256x128.Idx → EReal)
    (y : S8x2x288x512.Idx) (ob ou oc o p0 p1 : ℕ) (hs hs0 hs1)
    (e0 : o = 128 * ob) (e1 : p0 = 128 * (4 * ou + oc / 128)) (e2 : p1 = p0 + 16) (e4 : oc % 128 = 0) (e5 : oc < 512) :
    View.TileAt (Val := Elt Ideal) (e := .bf16) y ![ob, ou, 256, oc] ![1, 1, 32, 128]
      (shapeCast S1x1x32x128 (extractStridedSlice S32x128 ![0, o] (truncf .bf16 (mulf
        (concatenate S32x1024 0
          [⟨S16x1024, subf (mulf (extractStridedSlice S16x1024 ![p0, 0] M hs0) cs) (mulf (extractStridedSlice S16x1024 ![p1, 0] M hs1) sn)⟩,
           ⟨S16x1024, addf (mulf (extractStridedSlice S16x1024 ![p1, 0] M hs1) cs) (mulf (extractStridedSlice S16x1024 ![p0, 0] M hs0) sn)⟩] concatenates_S16x1024_S16x1024_S32x1024_d0)
        (broadcast S32x1024 (Scalar.ofBits .f32 0x3E0293EE#32)) : FVec Ideal S32x1024 .f32) bitsLt_bf16_f32) hs : FVec Ideal S32x128 .bf16) shapeCasts_S32x128_S1x1x32x128)
      (catBlock M cs sn w y) := by
  intro x hx
  obtain ⟨a, u, r, l, rfl⟩ : ∃ (a : Fin 1) (u : Fin 1) (r : Fin 32) (l : Fin 128), x = ix4 a u r l := ⟨x 0, x 1, x 2, x 3, eq_ix4 x⟩
  obtain ⟨b, v, r', q, rfl⟩ : ∃ (b : Fin 8) (u : Fin 2) (r : Fin 288) (l : Fin 512), y = ix4 b u r l := ⟨y 0, y 1, y 2, y 3, eq_ix4 y⟩
  have x0 : b.val = ob + a.val := hx 0
  have x1 : v.val = ou + u.val := hx 1
  have x2 : r'.val = 256 + r.val := hx 2
  have x3 : q.val = oc + l.val := hx 3
  obtain rfl : ob = b.val := by omega
  obtain rfl : p0 = 128 * (4 * v.val + q.val / 128) := by omega
  subst e0 e2
  have el : q.val % 128 = l.val := by omega
  have er : r'.val - 256 = r.val := by omega
  have h1 : ¬ r'.val < 256 := by omega
  pointwise
  show _ = (if h1 : r'.val < 256 then _ else rotRow M cs sn ⟨4 * v.val + q.val / 128, _⟩ ⟨r'.val - 256, _⟩ ⟨128 * b.val + q.val % 128, _⟩) * _
  rw [dif_neg h1]
  unfold rotRow
  simp only [el, er]
  by_cases h2 : r.val < 16
  · simp only [h2, dif_pos]
  · have g2 : 128 * (4 * v.val + q.val / 128) + 16 + (r.val - 16) = 128 * (4 * v.val + q.val / 128) + r.val := by omega
    simp only [h2, g2, dif_neg, not_false_eq_true]
end Cert.PrepKernelIdeal.PrepTile
-- ==== Proof.PrepSpec.lean ====
/- What the attention's preparation computes: the queries, the keys and the latent rows it hands on. -/
module

public import Idealize.ShloMosaic.Lib.Pointwise

@[expose] public section

noncomputable section

namespace Cert.PrepSpec

open Idealize.ShloMosaic

/-- The rotation's angle at position `p` for the pair `i`; `d` is the number of rotated columns. -/
def angle (d : BitVec 32) (p i : ℕ) : EReal :=
  FloatOps.sitofp (F := Ideal) .f32 (BitVec.ofNat 32 p) *
    Ideal.pow (Ideal.ofBits .f32 0x48F42400#32)
      (Ideal.div (-(Ideal.ofBits .f32 0x40000000#32 * FloatOps.sitofp (F := Ideal) .f32 (BitVec.ofNat 32 i))) (Ideal.ofBits .f32 d))

/-- The root mean square's factor of a row; `d` is its length. -/
def factor {n : ℕ} (d : BitVec 32) (f : Fin n → EReal) : EReal :=
  Ideal.rsqrt (Ideal.div (∑ x : Fin n, f x * f x) (Ideal.ofBits .f32 d) + Ideal.ofBits .f32 0x358637BD#32)

section
variable (X : (⟨2, ![16384, 1024]⟩ : Shape).Idx → EReal) (g : (⟨1, ![512]⟩ : Shape).Idx → EReal) (gk : (⟨1, ![256]⟩ : Shape).Idx → EReal)
  (W WI : (⟨2, ![512, 1024]⟩ : Shape).Idx → EReal) (U : (⟨3, ![8, 96, 256]⟩ : Shape).Idx → EReal)

/-- Row `r` of the queries' latent, normalised. -/
def latent (r : Fin 16384) (k : Fin 512) : EReal :=
  X (ix2 r ⟨k.val, by omega⟩) * factor 0x44000000#32 (fun x : Fin 512 => X (ix2 r ⟨x.val, by omega⟩)) * g (ix1 k)

/-- The projected query: row `r`, column `n`. -/
def query (r : Fin 16384) (n : Fin 1024) : EReal := ∑ k : Fin 512, latent X g r k * W (ix2 k n)

/-- Row `r` of the keys' latent, normalised. -/
def keyLatent (r : Fin 16384) (k : Fin 256) : EReal :=
  X (ix2 r ⟨512 + k.val, by omega⟩) * factor 0x43800000#32 (fun x : Fin 256 => X (ix2 r ⟨512 + x.val, by omega⟩)) * gk (ix1 k)

/-- The attention's query: row `r`, head `h`, and its 256 latent and 32 rotated columns. -/
def catAt (r : Fin 16384) (h : Fin 8) (i : Fin 288) : EReal :=
  (if h1 : i.val < 256 then ∑ n : Fin 96, U (ix3 h n ⟨i.val, h1⟩) * query X g W r ⟨128 * h.val + (32 + n.val), by omega⟩
  else if h2 : i.val - 256 < 16 then
    query X g W r ⟨128 * h.val + (i.val - 256), by omega⟩ * Ideal.cos (angle 0x42000000#32 (r.val % 4096) (i.val - 256))
      - query X g W r ⟨128 * h.val + (16 + (i.val - 256)), by omega⟩ * Ideal.sin (angle 0x42000000#32 (r.val % 4096) (i.val - 256))
  else
    query X g W r ⟨128 * h.val + (16 + (i.val - 256 - 16)), by omega⟩ * Ideal.cos (angle 0x42000000#32 (r.val % 4096) (i.val - 256 - 16))
      + query X g W r ⟨128 * h.val + (i.val - 256 - 16), by omega⟩ * Ideal.sin (angle 0x42000000#32 (r.val % 4096) (i.val - 256 - 16)))
  * Ideal.ofBits .f32 0x3E0293EE#32

/-- The indexer's query: row `r`, head `h`, and its 64 columns. -/
def idxAt (r : Fin 16384) (h : Fin 16) (i : Fin 64) : EReal :=
  if h1 : i.val < 8 then
    query X g WI r ⟨64 * h.val + i.val, by omega⟩ * Ideal.cos (angle 0x41800000#32 (r.val % 4096) i.val)
      - query X g WI r ⟨64 * h.val + (8 + i.val), by omega⟩ * Ideal.sin (angle 0x41800000#32 (r.val % 4096) i.val)
  else if h2 : i.val - 8 < 8 then
    query X g WI r ⟨64 * h.val + (8 + (i.val - 8)), by omega⟩ * Ideal.cos (angle 0x41800000#32 (r.val % 4096) (i.val - 8))
      + query X g WI r ⟨64 * h.val + (i.val - 8), by omega⟩ * Ideal.sin (angle 0x41800000#32 (r.val % 4096) (i.val - 8))
  else query X g WI r ⟨64 * h.val + (16 + (i.val - 8 - 8)), by omega⟩

/-- The first result: block, half of the heads, column, head and row. -/
def cat (y : (⟨4, ![128, 2, 288, 512]⟩ : Shape).Idx) : EReal :=
  catAt X g W U ⟨128 * (y 0).val + (y 3).val % 128, by have : (y 0).val < 128 := (y 0).isLt; omega⟩
    ⟨4 * (y 1).val + (y 3).val / 128, by have : (y 1).val < 2 := (y 1).isLt; have : (y 3).val < 512 := (y 3).isLt; omega⟩ (y 2)

/-- The second result: block, column, head and row. -/
def idx (y : (⟨3, ![128, 64, 2048]⟩ : Shape).Idx) : EReal :=
  idxAt X g WI ⟨128 * (y 0).val + (y 2).val % 128, by have : (y 0).val < 128 := (y 0).isLt; omega⟩
    ⟨(y 2).val / 128, by have : (y 2).val < 2048 := (y 2).isLt; omega⟩ (y 1)

/-- The third result: the indexer's weights, by block, head and row. -/
def weights (y : (⟨3, ![128, 16, 128]⟩ : Shape).Idx) : EReal :=
  X (ix2 ⟨128 * (y 0).val + (y 2).val, by have : (y 0).val < 128 := (y 0).isLt; have : (y 2).val < 128 := (y 2).isLt; omega⟩
    ⟨960 + (y 1).val, by have : (y 1).val < 16 := (y 1).isLt; omega⟩) * Ideal.ofBits .f32 0x3D000000#32

/-- The attention's key: row `r`, and its 256 latent and 32 rotated columns. -/
def keyAt (r : Fin 16384) (i : Fin 288) : EReal :=
  if h1 : i.val < 256 then keyLatent X gk r ⟨i.val, h1⟩
  else if h2 : i.val - 256 < 16 then
    X (ix2 r ⟨768 + (i.val - 256), by omega⟩) * Ideal.cos (angle 0x42000000#32 (r.val % 4096) (i.val - 256))
      - X (ix2 r ⟨768 + (16 + (i.val - 256)), by omega⟩) * Ideal.sin (angle 0x42000000#32 (r.val % 4096) (i.val - 256))
  else
    X (ix2 r ⟨768 + (16 + (i.val - 256 - 16)), by omega⟩) * Ideal.cos (angle 0x42000000#32 (r.val % 4096) (i.val - 256 - 16))
      + X (ix2 r ⟨768 + (i.val - 256 - 16), by omega⟩) * Ideal.sin (angle 0x42000000#32 (r.val % 4096) (i.val - 256 - 16))

/-- The fourth result: the attention's keys. -/
def keys (y : (⟨2, ![16384, 288]⟩ : Shape).Idx) : EReal := keyAt X gk (y 0) (y 1)

/-- The indexer's key: row `r`, and its 64 columns. -/
def keyIdxAt (r : Fin 16384) (i : Fin 64) : EReal :=
  if h1 : i.val < 8 then
    X (ix2 r ⟨896 + i.val, by omega⟩) * Ideal.cos (angle 0x41800000#32 (r.val % 4096) i.val)
      - X (ix2 r ⟨896 + (8 + i.val), by omega⟩) * Ideal.sin (angle 0x41800000#32 (r.val % 4096) i.val)
  else if h2 : i.val - 8 < 8 then
    X (ix2 r ⟨896 + (8 + (i.val - 8)), by omega⟩) * Ideal.cos (angle 0x41800000#32 (r.val % 4096) (i.val - 8))
      + X (ix2 r ⟨896 + (i.val - 8), by omega⟩) * Ideal.sin (angle 0x41800000#32 (r.val % 4096) (i.val - 8))
  else X (ix2 r ⟨896 + (16 + (i.val - 8 - 8)), by omega⟩)

/-- The fifth result: the indexer's keys. -/
def keysIdx (y : (⟨2, ![16384, 64]⟩ : Shape).Idx) : EReal := keyIdxAt X (y 0) (y 1)

/-- The sixth result: the keys' latent rows, by chunk, column and row. -/
def latents (y : (⟨3, ![32, 256, 512]⟩ : Shape).Idx) : EReal :=
  keyLatent X gk ⟨512 * (y 0).val + (y 2).val, by have : (y 0).val < 32 := (y 0).isLt; have : (y 2).val < 512 := (y 2).isLt; omega⟩ (y 1)
end

end Cert.PrepSpec
-- ==== Proof.PrepRead.lean ====
/- What the attention's preparation reads: its tables, its weights and its blocks, at an index. -/
module

public import proofs.«01_k».proof.Proof.PrepSpec
public import proofs.«01_k».proof.Proof.Gen.PrepKernelIdeal.Value
public import Idealize.ShloMosaic.Lib.Pipeline.ValueKit
public import Idealize.ShloMosaic.Lib.Pointwise

@[expose] public section

set_option maxRecDepth 65536

noncomputable section

namespace Cert.PrepKernelIdeal.PrepValue

open Cert.PrepKernelIdeal Cert.PrepKernelIdeal.Gen Cert.PrepSpec
open Idealize.ShloMosaic Idealize.ShloMosaic.TcCoe

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0, 0] := (by decide +kernel : ∀ t : Fin grid0.N, _)
theorem e6 : ∀ t : Fin cfg0.N, win0_6.index t = ![0, t.val % 4] := (by decide +kernel : ∀ t : Fin grid0.N, _)
theorem e7 : ∀ t : Fin cfg0.N, win0_7.index t = ![0, t.val % 4] := (by decide +kernel : ∀ t : Fin grid0.N, _)
theorem e8 : ∀ t : Fin cfg0.N, win0_8.index t = ![0, t.val % 4] := (by decide +kernel : ∀ t : Fin grid0.N, _)
theorem e9 : ∀ t : Fin cfg0.N, win0_9.index t = ![0, t.val % 4] := (by decide +kernel : ∀ t : Fin grid0.N, _)
theorem e10 : ∀ t : Fin cfg0.N, win0_10.index t = ![t.val % 4, 0] := (by decide +kernel : ∀ t : Fin grid0.N, _)
theorem e11 : ∀ t : Fin cfg0.N, win0_11.index t = ![t.val % 4, 0] := (by decide +kernel : ∀ t : Fin grid0.N, _)
theorem e12 : ∀ t : Fin cfg0.N, win0_12.index t = ![t.val % 4, 0] := (by decide +kernel : ∀ t : Fin grid0.N, _)
theorem e13 : ∀ t : Fin cfg0.N, win0_13.index t = ![t.val % 4, 0] := (by decide +kernel : ∀ t : Fin grid0.N, _)
theorem e14 : ∀ t : Fin cfg0.N, win0_14.index t = ![t.val, 0, 0, 0] := (by decide +kernel : ∀ t : Fin grid0.N, _)
theorem e15 : ∀ t : Fin cfg0.N, win0_15.index t = ![t.val, 0, 0] := (by decide +kernel : ∀ t : Fin grid0.N, _)
theorem e16 : ∀ t : Fin cfg0.N, win0_16.index t = ![t.val, 0, 0] := (by decide +kernel : ∀ t : Fin grid0.N, _)
theorem e17 : ∀ t : Fin cfg0.N, win0_17.index t = ![t.val, 0] := (by decide +kernel : ∀ t : Fin grid0.N, _)
theorem e18 : ∀ t : Fin cfg0.N, win0_18.index t = ![t.val, 0] := (by decide +kernel : ∀ t : Fin grid0.N, _)
theorem e19 : ∀ t : Fin cfg0.N, win0_19.index t = ![t.val, 0, 0] := (by decide +kernel : ∀ t : Fin grid0.N, _)

theorem points (t : Fin cfg0.N) : t.val < 16 := t.isLt

/-! ## The host's arrays -/

set_option maxHeartbeats 4000000 in
theorem V_cosq (i : Fin 16) (p : Fin 4096) : (V (F := Ideal) m c main_v53 : S16x4096.Idx → EReal) (ix2 i p) = Ideal.cos (angle 0x42000000#32 p.val i.val) := by
  simp only [V, hostOps0, hostOps0_1, hostOps0_2, List.flatten_cons, List.flatten_nil, List.append_nil, List.cons_append, List.nil_append]
  after_results
  pointwise
  rfl
set_option maxHeartbeats 4000000 in
theorem V_sinq (i : Fin 16) (p : Fin 4096) : (V (F := Ideal) m c main_v54 : S16x4096.Idx → EReal) (ix2 i p) = Ideal.sin (angle 0x42000000#32 p.val i.val) := by
  simp only [V, hostOps0, hostOps0_1, hostOps0_2, List.flatten_cons, List.flatten_nil, List.append_nil, List.cons_append, List.nil_append]
  after_results
  pointwise
  rfl
set_option maxHeartbeats 4000000 in
theorem V_cosi (i : Fin 8) (p : Fin 4096) : (V (F := Ideal) m c main_v55 : S8x4096.Idx → EReal) (ix2 i p) = Ideal.cos (angle 0x41800000#32 p.val i.val) := by
  simp only [V, hostOps0, hostOps0_1, hostOps0_2, List.flatten_cons, List.flatten_nil, List.append_nil, List.cons_append, List.nil_append]
  after_results
  pointwise
  rfl
set_option maxHeartbeats 4000000 in
theorem V_sini (i : Fin 8) (p : Fin 4096) : (V (F := Ideal) m c main_v56 : S8x4096.Idx → EReal) (ix2 i p) = Ideal.sin (angle 0x41800000#32 p.val i.val) := by
  simp only [V, hostOps0, hostOps0_1, hostOps0_2, List.flatten_cons, List.flatten_nil, List.append_nil, List.cons_append, List.nil_append]
  after_results
  pointwise
  rfl
set_option maxHeartbeats 4000000 in
theorem V_ck (p : Fin 4096) (i : Fin 128) : (V (F := Ideal) m c main_v36 : S4096x128.Idx → EReal) (ix2 p i) =
    (if h1 : i.val < 16 then Ideal.cos (angle 0x42000000#32 p.val i.val) else if h2 : i.val - 16 < 16 then Ideal.cos (angle 0x42000000#32 p.val (i.val - 16)) else Ideal.ofBits .f32 0x3F800000#32 : EReal) := by
  simp only [V, hostOps0, hostOps0_1, hostOps0_2, List.flatten_cons, List.flatten_nil, List.append_nil, List.cons_append, List.nil_append]
  after_results
  pointwise
  simp only [↓ StableHlo.readResult]
  pointwise
  rfl
set_option maxHeartbeats 4000000 in
theorem V_sk (p : Fin 4096) (i : Fin 128) : (V (F := Ideal) m c main_v39 : S4096x128.Idx → EReal) (ix2 p i) =
    (if h1 : i.val < 16 then -Ideal.sin (angle 0x42000000#32 p.val i.val) else if h2 : i.val - 16 < 16 then Ideal.sin (angle 0x42000000#32 p.val (i.val - 16)) else Ideal.ofBits .f32 0x00000000#32 : EReal) := by
  simp only [V, hostOps0, hostOps0_1, hostOps0_2, List.flatten_cons, List.flatten_nil, List.append_nil, List.cons_append, List.nil_append]
  after_results
  pointwise
  simp only [↓ StableHlo.readResult]
  pointwise
  rfl
set_option maxHeartbeats 4000000 in
theorem V_ci (p : Fin 4096) (i : Fin 128) : (V (F := Ideal) m c main_v41 : S4096x128.Idx → EReal) (ix2 p i) =
    (if h1 : i.val < 8 then Ideal.cos (angle 0x41800000#32 p.val i.val) else if h2 : i.val - 8 < 8 then Ideal.cos (angle 0x41800000#32 p.val (i.val - 8)) else Ideal.ofBits .f32 0x3F800000#32 : EReal) := by
  simp only [V, hostOps0, hostOps0_1, hostOps0_2, List.flatten_cons, List.flatten_nil, List.append_nil, List.cons_append, List.nil_append]
  after_results
  pointwise
  simp only [↓ StableHlo.readResult]
  pointwise
  rfl
set_option maxHeartbeats 4000000 in
theorem V_si (p : Fin 4096) (i : Fin 128) : (V (F := Ideal) m c main_v44 : S4096x128.Idx → EReal) (ix2 p i) =
    (if h1 : i.val < 8 then -Ideal.sin (angle 0x41800000#32 p.val i.val) else if h2 : i.val - 8 < 8 then Ideal.sin (angle 0x41800000#32 p.val (i.val - 8)) else Ideal.ofBits .f32 0x00000000#32 : EReal) := by
  simp only [V, hostOps0, hostOps0_1, hostOps0_2, List.flatten_cons, List.flatten_nil, List.append_nil, List.cons_append, List.nil_append]
  after_results
  pointwise
  simp only [↓ StableHlo.readResult]
  pointwise
  rfl
set_option maxHeartbeats 4000000 in
theorem V_uk (h : Fin 8) (r : Fin 256) (k : Fin 128) : (V (F := Ideal) m c main_v59 : S8x256x128.Idx → EReal) (ix3 h r k) =
    (if h1 : 32 ≤ k.val then (m ((c : Thread nD τ).loc main_arg5) : S8x96x256.Idx → EReal) (ix3 h ⟨k.val - 32, by omega⟩ r) else (0 : EReal) : EReal) := by
  simp only [V, hostOps0, hostOps0_1, hostOps0_2, List.flatten_cons, List.flatten_nil, List.append_nil, List.cons_append, List.nil_append]
  after_results
  pointwise
  show (pad S8x128x256 ![0, 32, 0] ![0, 0, 0] ![0, 0, 0] (m ((c : Thread nD τ).loc main_arg5) : FVec Ideal S8x96x256 .f32) (sitofp .f32 (constantI S_ 32 0#32) : FVec Ideal S_ .f32)
        pads_S8x96x256_S8x128x256_000_3200_000 h_S_ : FVec Ideal S8x128x256 .f32) (ix3 h k r) = _
  pointwise
  by_cases h1 : 32 ≤ k.val
  · rw [dif_pos h1]
    refine dif_pos ?_
    show ∀ a : Fin 3, _
    intro a
    fin_cases a
    · exact ⟨Nat.zero_le _, Nat.mod_one _, by simpa [ix3] using h.isLt⟩
    · refine ⟨by simpa [ix3] using h1, Nat.mod_one _, ?_⟩
      have : (k.val - 32) / 1 < 96 := by omega
      simpa [ix3] using this
    · exact ⟨Nat.zero_le _, Nat.mod_one _, by simpa [ix3] using r.isLt⟩
  · rw [dif_neg h1]
    refine (dif_neg fun hh => h1 (hh 1).1).trans ?_
    simp [FloatOps.sitofp]
set_option maxHeartbeats 4000000 in
theorem V_wq (n : Fin 1024) (k : Fin 512) : (V (F := Ideal) m c main_v63 : S1024x512.Idx → EReal) (ix2 n k) = (m ((c : Thread nD τ).loc main_arg3) : S512x1024.Idx → EReal) (ix2 k n) := by
  simp only [V, hostOps0, hostOps0_1, hostOps0_2, List.flatten_cons, List.flatten_nil, List.append_nil, List.cons_append, List.nil_append]
  after_results
  pointwise
set_option maxHeartbeats 4000000 in
theorem V_wi (n : Fin 1024) (k : Fin 512) : (V (F := Ideal) m c main_v65 : S1024x512.Idx → EReal) (ix2 n k) = (m ((c : Thread nD τ).loc main_arg4) : S512x1024.Idx → EReal) (ix2 k n) := by
  simp only [V, hostOps0, hostOps0_1, hostOps0_2, List.flatten_cons, List.flatten_nil, List.append_nil, List.cons_append, List.nil_append]
  after_results
  pointwise
set_option maxHeartbeats 4000000 in
theorem V_gq (k : Fin 512) : (V (F := Ideal) m c main_v60 : S1x512.Idx → EReal) (ix2 0 k) = (m ((c : Thread nD τ).loc main_arg1) : S512.Idx → EReal) (ix1 k) := by
  simp only [V, hostOps0, hostOps0_1, hostOps0_2, List.flatten_cons, List.flatten_nil, List.append_nil, List.cons_append, List.nil_append]
  after_results
  show (shapeCast S1x512 (m ((c : Thread nD τ).loc main_arg1) : FVec Ideal S512 .f32) shapeCasts_S512_S1x512 : FVec Ideal S1x512 .f32) (ix2 0 k) = _
  pointwise
set_option maxHeartbeats 4000000 in
theorem V_gk (k : Fin 256) : (V (F := Ideal) m c main_v61 : S1x256.Idx → EReal) (ix2 0 k) = (m ((c : Thread nD τ).loc main_arg2) : S256.Idx → EReal) (ix1 k) := by
  simp only [V, hostOps0, hostOps0_1, hostOps0_2, List.flatten_cons, List.flatten_nil, List.append_nil, List.cons_append, List.nil_append]
  after_results
  show (shapeCast S1x256 (m ((c : Thread nD τ).loc main_arg2) : FVec Ideal S256 .f32) shapeCasts_S256_S1x256 : FVec Ideal S1x256 .f32) (ix2 0 k) = _
  pointwise

/-! ## The blocks -/

theorem blk0 (t : Fin cfg0.N) (j k : Fin 1024) (r : Fin 16384) (h : r.val = 1024 * t.val + j.val) :
    iblk m c 0 t (ix2 j k) = m ((c : Thread nD τ).loc main_arg0) (ix2 r k) := by
  blk_simp [iblk]
  rw [V_main_arg0]
  congr 1
  blk_ext [e0]
theorem blk1 (t : Fin cfg0.N) (k : Fin 512) : iblk m c 1 t (ix2 0 k) = m ((c : Thread nD τ).loc main_arg1) (ix1 k) := by
  blk_simp [iblk]
  have : (win0_1.blk t).view.emb (ix2 0 k) = (ix2 0 k : S1x512.Idx) := by blk_ext [e1]
  rw [this]
  exact V_gq m c k
theorem blk2 (t : Fin cfg0.N) (k : Fin 256) : iblk m c 2 t (ix2 0 k) = m ((c : Thread nD τ).loc main_arg2) (ix1 k) := by
  blk_simp [iblk]
  have : (win0_2.blk t).view.emb (ix2 0 k) = (ix2 0 k : S1x256.Idx) := by blk_ext [e2]
  rw [this]
  exact V_gk m c k
theorem blk3 (t : Fin cfg0.N) (n : Fin 1024) (k : Fin 512) : iblk m c 3 t (ix2 n k) = m ((c : Thread nD τ).loc main_arg3) (ix2 k n) := by
  blk_simp [iblk]
  have : (win0_3.blk t).view.emb (ix2 n k) = (ix2 n k : S1024x512.Idx) := by blk_ext [e3]
  rw [this]
  exact V_wq m c n k
theorem blk4 (t : Fin cfg0.N) (n : Fin 1024) (k : Fin 512) : iblk m c 4 t (ix2 n k) = m ((c : Thread nD τ).loc main_arg4) (ix2 k n) := by
  blk_simp [iblk]
  have : (win0_4.blk t).view.emb (ix2 n k) = (ix2 n k : S1024x512.Idx) := by blk_ext [e4]
  rw [this]
  exact V_wi m c n k
theorem blk5 (t : Fin cfg0.N) (h : Fin 8) (r : Fin 256) (k : Fin 128) : iblk m c 5 t (ix3 h r k) =
    (if h1 : 32 ≤ k.val then (m ((c : Thread nD τ).loc main_arg5) : S8x96x256.Idx → EReal) (ix3 h ⟨k.val - 32, by omega⟩ r) else (0 : EReal) : EReal) := by
  blk_simp [iblk]
  have : (win0_5.blk t).view.emb (ix3 h r k) = (ix3 h r k : S8x256x128.Idx) := by blk_ext [e5]
  rw [this]
  exact V_uk m c h r k
theorem blk6 (t : Fin cfg0.N) (i : Fin 16) (j : Fin 1024) : iblk m c 6 t (ix2 i j) = Ideal.cos (angle 0x42000000#32 ((1024 * t.val + j.val) % 4096) i.val) := by
  have e : 1024 * (t.val % 4) + j.val = (1024 * t.val + j.val) % 4096 := by omega
  blk_simp [iblk]
  have : (win0_6.blk t).view.emb (ix2 i j) = (ix2 i ⟨(1024 * t.val + j.val) % 4096, by omega⟩ : S16x4096.Idx) := by blk_ext [e6]
  rw [this]
  exact V_cosq m c i _
theorem blk7 (t : Fin cfg0.N) (i : Fin 16) (j : Fin 1024) : iblk m c 7 t (ix2 i j) = Ideal.sin (angle 0x42000000#32 ((1024 * t.val + j.val) % 4096) i.val) := by
  have e : 1024 * (t.val % 4) + j.val = (1024 * t.val + j.val) % 4096 := by omega
  blk_simp [iblk]
  have : (win0_7.blk t).view.emb (ix2 i j) = (ix2 i ⟨(1024 * t.val + j.val) % 4096, by omega⟩ : S16x4096.Idx) := by blk_ext [e7]
  rw [this]
  exact V_sinq m c i _
theorem blk8 (t : Fin cfg0.N) (i : Fin 8) (j : Fin 1024) : iblk m c 8 t (ix2 i j) = Ideal.cos (angle 0x41800000#32 ((1024 * t.val + j.val) % 4096) i.val) := by
  have e : 1024 * (t.val % 4) + j.val = (1024 * t.val + j.val) % 4096 := by omega
  blk_simp [iblk]
  have : (win0_8.blk t).view.emb (ix2 i j) = (ix2 i ⟨(1024 * t.val + j.val) % 4096, by omega⟩ : S8x4096.Idx) := by blk_ext [e8]
  rw [this]
  exact V_cosi m c i _
theorem blk9 (t : Fin cfg0.N) (i : Fin 8) (j : Fin 1024) : iblk m c 9 t (ix2 i j) = Ideal.sin (angle 0x41800000#32 ((1024 * t.val + j.val) % 4096) i.val) := by
  have e : 1024 * (t.val % 4) + j.val = (1024 * t.val + j.val) % 4096 := by omega
  blk_simp [iblk]
  have : (win0_9.blk t).view.emb (ix2 i j) = (ix2 i ⟨(1024 * t.val + j.val) % 4096, by omega⟩ : S8x4096.Idx) := by blk_ext [e9]
  rw [this]
  exact V_sini m c i _
theorem blk10 (t : Fin cfg0.N) (j : Fin 1024) (i : Fin 128) : iblk m c 10 t (ix2 j i) =
    (if h1 : i.val < 16 then Ideal.cos (angle 0x42000000#32 ((1024 * t.val + j.val) % 4096) i.val) else if h2 : i.val - 16 < 16 then Ideal.cos (angle 0x42000000#32 ((1024 * t.val + j.val) % 4096) (i.val - 16)) else Ideal.ofBits .f32 0x3F800000#32 : EReal) := by
  have e : 1024 * (t.val % 4) + j.val = (1024 * t.val + j.val) % 4096 := by omega
  blk_simp [iblk]
  have : (win0_10.blk t).view.emb (ix2 j i) = (ix2 ⟨(1024 * t.val + j.val) % 4096, by omega⟩ i : S4096x128.Idx) := by blk_ext [e10]
  rw [this]
  exact V_ck m c _ i
theorem blk11 (t : Fin cfg0.N) (j : Fin 1024) (i : Fin 128) : iblk m c 11 t (ix2 j i) =
    (if h1 : i.val < 16 then -Ideal.sin (angle 0x42000000#32 ((1024 * t.val + j.val) % 4096) i.val) else if h2 : i.val - 16 < 16 then Ideal.sin (angle 0x42000000#32 ((1024 * t.val + j.val) % 4096) (i.val - 16)) else Ideal.ofBits .f32 0x00000000#32 : EReal) := by
  have e : 1024 * (t.val % 4) + j.val = (1024 * t.val + j.val) % 4096 := by omega
  blk_simp [iblk]
  have : (win0_11.blk t).view.emb (ix2 j i) = (ix2 ⟨(1024 * t.val + j.val) % 4096, by omega⟩ i : S4096x128.Idx) := by blk_ext [e11]
  rw [this]
  exact V_sk m c _ i
theorem blk12 (t : Fin cfg0.N) (j : Fin 1024) (i : Fin 128) : iblk m c 12 t (ix2 j i) =
    (if h1 : i.val < 8 then Ideal.cos (angle 0x41800000#32 ((1024 * t.val + j.val) % 4096) i.val) else if h2 : i.val - 8 < 8 then Ideal.cos (angle 0x41800000#32 ((1024 * t.val + j.val) % 4096) (i.val - 8)) else Ideal.ofBits .f32 0x3F800000#32 : EReal) := by
  have e : 1024 * (t.val % 4) + j.val = (1024 * t.val + j.val) % 4096 := by omega
  blk_simp [iblk]
  have : (win0_12.blk t).view.emb (ix2 j i) = (ix2 ⟨(1024 * t.val + j.val) % 4096, by omega⟩ i : S4096x128.Idx) := by blk_ext [e12]
  rw [this]
  exact V_ci m c _ i
theorem blk13 (t : Fin cfg0.N) (j : Fin 1024) (i : Fin 128) : iblk m c 13 t (ix2 j i) =
    (if h1 : i.val < 8 then -Ideal.sin (angle 0x41800000#32 ((1024 * t.val + j.val) % 4096) i.val) else if h2 : i.val - 8 < 8 then Ideal.sin (angle 0x41800000#32 ((1024 * t.val + j.val) % 4096) (i.val - 8)) else Ideal.ofBits .f32 0x00000000#32 : EReal) := by
  have e : 1024 * (t.val % 4) + j.val = (1024 * t.val + j.val) % 4096 := by omega
  blk_simp [iblk]
  have : (win0_13.blk t).view.emb (ix2 j i) = (ix2 ⟨(1024 * t.val + j.val) % 4096, by omega⟩ i : S4096x128.Idx) := by blk_ext [e13]
  rw [this]
  exact V_si m c _ i
end Cert.PrepKernelIdeal.PrepValue
-- ==== Proof.PrepBlock.lean ====
/- What the attention's preparation leaves in its blocks, in the words of the layer's mathematics. -/
module

public import proofs.«01_k».proof.Proof.PrepTile
public import proofs.«01_k».proof.Proof.PrepRead

@[expose] public section

set_option maxRecDepth 65536

noncomputable section

namespace Cert.PrepKernelIdeal.PrepValue

open Cert.PrepKernelIdeal Cert.PrepKernelIdeal.Gen Cert.PrepKernelIdeal.PrepTile Cert.PrepSpec
open Idealize.ShloMosaic Idealize.ShloMosaic.TcCoe

section
variable {X : S16384x1024.Idx → EReal} {g : S512.Idx → EReal} {gk : S256.Idx → EReal} {W WI : S512x1024.Idx → EReal} {U : S8x96x256.Idx → EReal}

/-- The body's projected queries, column by row. -/
theorem query_word (v0 : Vec Ideal S1024x512 .f32) (v11 : Vec Ideal S1x512 .f32) (v16 : Vec Ideal S1024x512 .bf16) (n j : Fin 1024) (r : Fin 16384)
    (h0 : ∀ k : Fin 512, v0 (ix2 j k) = X (ix2 r ⟨k.val, by omega⟩)) (h1 : ∀ k, v11 (ix2 0 k) = g (ix1 k)) (h3 : ∀ k, v16 (ix2 n k) = W (ix2 k n)) :
    k0_pay3 (F := Ideal) v0 v11 v16 (ix2 n j) = query X g W r n := by
  unfold k0_pay3 k0_pay2
  pointwise
  simp only [h0, h1, h3]
  exact Finset.sum_congr rfl fun k _ => mul_comm _ _

/-- A sum whose first 32 terms vanish. -/
theorem sum_pad (F : Fin 128 → EReal) (G : Fin 96 → EReal) (h0 : ∀ k : Fin 128, k.val < 32 → F k = 0) (h1 : ∀ n : Fin 96, F ⟨32 + n.val, by omega⟩ = G n) :
    ∑ k, F k = ∑ n, G n := by
  refine (Fin.sum_univ_add (a := 32) (b := 96) F).trans ?_
  rw [Finset.sum_eq_zero fun k _ => h0 _ k.isLt, zero_add]
  exact Finset.sum_congr rfl fun n _ => h1 n

/-- A block of the queries is the first result's block. -/
theorem cat_block (M : S1024x1024.Idx → EReal) (cs sn : S16x1024.Idx → EReal) (w : S8x256x128.Idx → EReal) (t : ℕ) (ht : t < 16)
    (hM : ∀ n j : Fin 1024, M (ix2 n j) = query X g W ⟨1024 * t + j.val, by omega⟩ n)
    (hc : ∀ (i : Fin 16) (j : Fin 1024), cs (ix2 i j) = Ideal.cos (angle 0x42000000#32 ((1024 * t + j.val) % 4096) i.val))
    (hs : ∀ (i : Fin 16) (j : Fin 1024), sn (ix2 i j) = Ideal.sin (angle 0x42000000#32 ((1024 * t + j.val) % 4096) i.val))
    (hw : ∀ (h : Fin 8) (r : Fin 256) (k : Fin 128), w (ix3 h r k) = if h1 : 32 ≤ k.val then U (ix3 h ⟨k.val - 32, by omega⟩ r) else 0)
    (b : Fin 8) (v : Fin 2) (i : Fin 288) (q : Fin 512) :
    catBlock M cs sn w (ix4 b v i q) = cat X g W U (ix4 ⟨8 * t + b.val, by omega⟩ v i q) := by
  have ep : 1024 * t + (128 * b.val + q.val % 128) = 128 * (8 * t + b.val) + q.val % 128 := by omega
  show (if h1 : i.val < 256 then latRow M w ⟨4 * v.val + q.val / 128, _⟩ ⟨i.val, h1⟩ ⟨128 * b.val + q.val % 128, _⟩
      else rotRow M cs sn ⟨4 * v.val + q.val / 128, _⟩ ⟨i.val - 256, _⟩ ⟨128 * b.val + q.val % 128, _⟩) * _
    = catAt X g W U ⟨128 * (8 * t + b.val) + q.val % 128, _⟩ ⟨4 * v.val + q.val / 128, _⟩ i
  unfold latRow rotRow catAt
  simp only [hM, hc, hs, ep]
  refine congrArg (· * _) ?_
  by_cases h1 : i.val < 256
  · rw [dif_pos h1, dif_pos h1]
    refine sum_pad _ _ (fun k hk => ?_) fun n => ?_
    · rw [hw, dif_neg (by omega), zero_mul]
    · rw [hw, dif_pos (by simp)]
      have : 32 + n.val - 32 = n.val := by omega
      simp only [this]
  · rw [dif_neg h1, dif_neg h1]
    by_cases h2 : i.val - 256 < 16
    · simp only [h2, dif_pos, Nat.add_assoc]
    · have e : 16 + (i.val - 256 - 16) = i.val - 256 := by omega
      simp only [h2, e, dif_neg, not_false_eq_true]

/-- A block of the indexer's queries is the second result's block. -/
theorem idx_block (M : S1024x1024.Idx → EReal) (cs sn : S8x1024.Idx → EReal) (t : ℕ) (ht : t < 16)
    (hM : ∀ n j : Fin 1024, M (ix2 n j) = query X g WI ⟨1024 * t + j.val, by omega⟩ n)
    (hc : ∀ (i : Fin 8) (j : Fin 1024), cs (ix2 i j) = Ideal.cos (angle 0x41800000#32 ((1024 * t + j.val) % 4096) i.val))
    (hs : ∀ (i : Fin 8) (j : Fin 1024), sn (ix2 i j) = Ideal.sin (angle 0x41800000#32 ((1024 * t + j.val) % 4096) i.val))
    (b : Fin 8) (i : Fin 64) (q : Fin 2048) :
    idxBlock M cs sn (ix3 b i q) = idx X g WI (ix3 ⟨8 * t + b.val, by omega⟩ i q) := by
  have ep : 1024 * t + (128 * b.val + q.val % 128) = 128 * (8 * t + b.val) + q.val % 128 := by omega
  show idxRow M cs sn ⟨q.val / 128, _⟩ i ⟨128 * b.val + q.val % 128, _⟩ = PrepSpec.idxAt X g WI ⟨128 * (8 * t + b.val) + q.val % 128, _⟩ ⟨q.val / 128, _⟩ i
  unfold idxRow PrepSpec.idxAt
  simp only [hM, hc, hs, ep]
  by_cases h1 : i.val < 8
  · simp only [h1, dif_pos, Nat.add_assoc]
  · have e1 : 8 + (i.val - 8) = i.val := by omega
    by_cases h2 : i.val < 16
    · have h3 : i.val - 8 < 8 := by omega
      simp only [h1, h2, h3, e1, dif_pos, dif_neg, not_false_eq_true]
    · have h3 : ¬ i.val - 8 < 8 := by omega
      have e2 : 16 + (i.val - 8 - 8) = i.val := by omega
      simp only [h1, h2, h3, e2, dif_neg, not_false_eq_true]

theorem one_word : Ideal.ofBits .f32 0x3F800000#32 = (1 : EReal) := by pointwise
theorem zero_word : Ideal.ofBits .f32 0x00000000#32 = (0 : EReal) := by pointwise

/-- The test for the first lanes is the comparison of their numbers. -/
theorem lanes8 {α : Type} (k : Fin 128) (x y : α) : Scalar.select (IntOp.cmpi .slt (BitVec.ofNat 32 k.val) 8#32) x y = if k.val < 8 then x else y := by
  have h : ∀ k : Fin 128, IntOp.cmpi .slt (BitVec.ofNat 32 k.val) 8#32 = if k.val < 8 then 1#1 else 0#1 := by decide +kernel
  rw [h k]
  by_cases hk : k.val < 8 <;> simp [hk, Scalar.select]
theorem lanes16 {α : Type} (k : Fin 128) (x y : α) : Scalar.select (IntOp.cmpi .slt (BitVec.ofNat 32 k.val) 16#32) x y = if k.val < 16 then x else y := by
  have h : ∀ k : Fin 128, IntOp.cmpi .slt (BitVec.ofNat 32 k.val) 16#32 = if k.val < 16 then 1#1 else 0#1 := by decide +kernel
  rw [h k]
  by_cases hk : k.val < 16 <;> simp [hk, Scalar.select]

/-- The body's rotated keys of the indexer. -/
theorem keyIdx_word (v w z : Vec Ideal S1024x128 .f32) (j : Fin 1024) (k : Fin 64) (r : Fin 16384)
    (hv : ∀ i : Fin 128, v (ix2 j i) = X (ix2 r ⟨896 + i.val, by omega⟩))
    (hw : ∀ i : Fin 128, w (ix2 j i) = if h1 : i.val < 8 then Ideal.cos (angle 0x41800000#32 (r.val % 4096) i.val)
      else if h2 : i.val - 8 < 8 then Ideal.cos (angle 0x41800000#32 (r.val % 4096) (i.val - 8)) else Ideal.ofBits .f32 0x3F800000#32)
    (hz : ∀ i : Fin 128, z (ix2 j i) = if h1 : i.val < 8 then -Ideal.sin (angle 0x41800000#32 (r.val % 4096) i.val)
      else if h2 : i.val - 8 < 8 then Ideal.sin (angle 0x41800000#32 (r.val % 4096) (i.val - 8)) else Ideal.ofBits .f32 0x00000000#32) :
    k0_pay327 (F := Ideal) v w z (ix2 j k) = keyIdxAt X r k := by
  unfold k0_pay327 keyIdxAt
  pointwise
  simp only [hv, hw, hz]
  rw [lanes8 (⟨k.val, by omega⟩ : Fin 128)]
  by_cases h1 : k.val < 8
  · have e : (k.val + 128 - 120) % 128 = 8 + k.val := by omega
    simp only [h1, e, dif_pos, if_pos, sub_eq_add_neg, mul_neg]
  · by_cases h2 : k.val - 8 < 8
    · have e : (k.val + 128 - 8) % 128 = k.val - 8 := by omega
      have e1 : 8 + (k.val - 8) = k.val := by omega
      simp only [h1, h2, e, e1, dif_pos, dif_neg, if_neg, not_false_eq_true]
    · have e2 : 16 + (k.val - 8 - 8) = k.val := by omega
      simp only [h1, h2, e2, dif_neg, if_neg, not_false_eq_true]
      rw [one_word, zero_word, mul_one, mul_zero, add_zero]

/-- The body's rotated keys. -/
theorem key_word (v w z : Vec Ideal S1024x128 .f32) (j : Fin 1024) (k : Fin 32) (r : Fin 16384)
    (hv : ∀ i : Fin 128, v (ix2 j i) = X (ix2 r ⟨768 + i.val, by omega⟩))
    (hw : ∀ i : Fin 128, w (ix2 j i) = if h1 : i.val < 16 then Ideal.cos (angle 0x42000000#32 (r.val % 4096) i.val)
      else if h2 : i.val - 16 < 16 then Ideal.cos (angle 0x42000000#32 (r.val % 4096) (i.val - 16)) else Ideal.ofBits .f32 0x3F800000#32)
    (hz : ∀ i : Fin 128, z (ix2 j i) = if h1 : i.val < 16 then -Ideal.sin (angle 0x42000000#32 (r.val % 4096) i.val)
      else if h2 : i.val - 16 < 16 then Ideal.sin (angle 0x42000000#32 (r.val % 4096) (i.val - 16)) else Ideal.ofBits .f32 0x00000000#32) :
    k0_pay1 (F := Ideal) (k0_pay342 (iota .tc S1024x128 32 [1] iota_S1024x128_d1_w32) v) (k0_pay343 v w) z (ix2 j k) =
      keyAt X gk r ⟨256 + k.val, by omega⟩ := by
  have h0 : ¬ 256 + k.val < 256 := by omega
  have e0 : 256 + k.val - 256 = k.val := by omega
  unfold k0_pay1 k0_pay342 k0_pay343 keyAt
  pointwise
  simp only [hv, hw, hz, h0, e0, dif_neg, not_false_eq_true]
  rw [lanes16 (⟨k.val, by omega⟩ : Fin 128)]
  by_cases h1 : k.val < 16
  · have e : (k.val + 128 - 112) % 128 = 16 + k.val := by omega
    simp only [h1, e, dif_pos, if_pos, sub_eq_add_neg, mul_neg]
  · have h2 : k.val - 16 < 16 := by omega
    have e : (k.val + 128 - 16) % 128 = k.val - 16 := by omega
    have e1 : 16 + (k.val - 16) = k.val := by omega
    simp only [h1, h2, e, e1, dif_pos, dif_neg, if_neg, not_false_eq_true]

/-- The body's normalised latent of the keys. -/
theorem latent_word (v : Vec Ideal S1024x256 .f32) (w : Vec Ideal S1x256 .f32) (j : Fin 1024) (k : Fin 256) (r : Fin 16384)
    (hv : ∀ i : Fin 256, v (ix2 j i) = X (ix2 r ⟨512 + i.val, by omega⟩)) (hw : ∀ i, w (ix2 0 i) = gk (ix1 i)) :
    k0_pay338 (F := Ideal) v w (ix2 j k) = keyLatent X gk r k := by
  unfold k0_pay338
  pointwise
  simp only [hv, hw]
  rfl
end

/-! ## The stored pieces of the smaller results -/

theorem wt_tile (x : FVec Ideal S16x1024 .f32) (y : S8x16x128.Idx) (ob o : ℕ) (hs) (e0 : o = 128 * ob) :
    View.TileAt (Val := Elt Ideal) (e := .f32) y ![ob, 0, 0] ![1, 16, 128]
      (shapeCast S1x16x128 (extractStridedSlice S16x128 ![0, o] x hs : FVec Ideal S16x128 .f32) shapeCasts_S16x128_S1x16x128)
      (x (ix2 (y 1) ⟨128 * (y 0).val + (y 2).val, by have : (y 0).val < 8 := (y 0).isLt; have : (y 2).val < 128 := (y 2).isLt; omega⟩)) := by
  intro i hi
  obtain ⟨a, h, l, rfl⟩ : ∃ (a : Fin 1) (h : Fin 16) (l : Fin 128), i = ix3 a h l := ⟨i 0, i 1, i 2, eq_ix3 i⟩
  obtain ⟨b, h', l', rfl⟩ : ∃ (b : Fin 8) (h : Fin 16) (l : Fin 128), y = ix3 b h l := ⟨y 0, y 1, y 2, eq_ix3 y⟩
  have x0 : b.val = ob + a.val := hi 0
  have x1 : h'.val = 0 + h.val := hi 1
  have x2 : l'.val = 0 + l.val := hi 2
  obtain rfl : h' = h := Fin.ext (by omega)
  obtain rfl : l' = l := Fin.ext (by omega)
  obtain rfl : ob = b.val := by omega
  subst e0
  pointwise

theorem kv_tile (x : FVec Ideal S1024x256 .f32) (y : S2x256x512.Idx) (ob o : ℕ) (hs) (e0 : o = 512 * ob) :
    View.TileAt (Val := Elt Ideal) (e := .bf16) y ![ob, 0, 0] ![1, 256, 512]
      (shapeCast S1x256x512 (truncf .bf16 (transpose S256x512 [1, 0] (extractStridedSlice S512x256 ![o, 0] x hs : FVec Ideal S512x256 .f32) transposes_S512x256_p1_0_S256x512) bitsLt_bf16_f32 : FVec Ideal S256x512 .bf16) shapeCasts_S256x512_S1x256x512)
      (x (ix2 ⟨512 * (y 0).val + (y 2).val, by have : (y 0).val < 2 := (y 0).isLt; have : (y 2).val < 512 := (y 2).isLt; omega⟩ (y 1))) := by
  intro i hi
  obtain ⟨a, h, l, rfl⟩ : ∃ (a : Fin 1) (h : Fin 256) (l : Fin 512), i = ix3 a h l := ⟨i 0, i 1, i 2, eq_ix3 i⟩
  obtain ⟨b, h', l', rfl⟩ : ∃ (b : Fin 2) (h : Fin 256) (l : Fin 512), y = ix3 b h l := ⟨y 0, y 1, y 2, eq_ix3 y⟩
  have x0 : b.val = ob + a.val := hi 0
  have x1 : h'.val = 0 + h.val := hi 1
  have x2 : l'.val = 0 + l.val := hi 2
  obtain rfl : h' = h := Fin.ext (by omega)
  obtain rfl : l' = l := Fin.ext (by omega)
  obtain rfl : ob = b.val := by omega
  subst e0
  pointwise
end Cert.PrepKernelIdeal.PrepValue
-- ==== Proof.PrepValue.lean ====
/- What the attention's preparation leaves in its arrays. -/
module

public import proofs.«01_k».proof.Proof.PrepBlock
public import Idealize.ShloMosaic.Lib.WholeRead

@[expose] public section

set_option maxRecDepth 65536

noncomputable section

namespace Cert.PrepKernelIdeal.PrepValue

open Cert.PrepKernelIdeal Cert.PrepKernelIdeal.Gen Cert.PrepKernelIdeal.PrepTile Cert.PrepSpec
open Idealize.ShloMosaic Idealize.ShloMosaic.TcCoe

/-- A load of a part of a block reads the block at the part's place. -/
theorem ld {s : Shape} {e : EltTy} (mr : Memref sig .tc .vmem s e) (h : mr.IsWhole) (x : s.Idx → Elt Ideal e) (off size : Fin s.rank → ℕ) (hb)
    (i : (Rect.unit (s := s) off size hb).toLoadRect.shape.Idx) (i' : s.Idx) (hi : ∀ a, (i' a).val = off a + (i a).val) :
    View.readAt (Elt Ideal) mr.view (Rect.unit (s := s) off size hb).toLoadRect (h.unread x) i = x i' := by
  rw [Memref.IsWhole.readAt_unread]
  refine congrArg x (funext fun a => Fin.ext ?_)
  rw [hi a]
  simp [Rect.emb]

/-- A stored piece of some of a block's columns. -/
theorem col_tile {e : EltTy} {n N : ℕ} (f : (⟨2, ![1024, n]⟩ : Shape).Idx → Elt Ideal e) (j : Fin 1024) (q : Fin N) (o : ℕ) (v : Elt Ideal e)
    (h : ∀ k : Fin n, q.val = o + k.val → f (ix2 j k) = v) :
    View.TileAt (Val := Elt Ideal) (e := e) (S := ⟨2, ![1024, N]⟩) (ix2 j q) ![0, o] ![1024, n] f v := by
  intro i hi
  obtain ⟨a, k, rfl⟩ : ∃ (a : Fin 1024) (k : Fin n), i = ix2 a k := ⟨i 0, i 1, eq_ix2 i⟩
  have x0 : j.val = 0 + a.val := hi 0
  have x1 : q.val = o + k.val := hi 1
  obtain rfl : a = j := Fin.ext (by omega)
  exact h k x1

variable (m : (ℓ : Loc nD τ sig) → Buf (Elt Ideal) ℓ) (c : Dev nD)

/-- A load of one head's block of the weights. -/
theorem ld_head (mr : Memref sig .tc .vmem S8x256x128 .bf16) (h : mr.IsWhole) (x : S8x256x128.Idx → Elt Ideal .bf16) (n : ℕ) (hb) (hn : n < 8) (r : Fin 256) (k : Fin 128) :
    View.readAt (Elt Ideal) mr.view (Rect.unit (s := S8x256x128) ![n, 0, 0] S1x256x128.size hb).toLoadRect (h.unread x) (ix3 0 r k) = x (ix3 ⟨n, hn⟩ r k) :=
  ld mr h x _ _ hb _ _ fun a => by fin_cases a <;> simp [ix3]

/-! ## The loaded words -/

section
variable (t : Fin cfg0.N)
abbrev wQ : Vec Ideal S1024x512 .f32 := View.readAt (Elt Ideal) (ms0_0 t).view (Rect.unit (s := S1024x1024) ![0, 0] S1024x512.size inb_S1024x1024_S1024x512_0_0).toLoadRect ((hs0_0 t).unread (iblk m c 0 t))
abbrev wG : Vec Ideal S1x512 .f32 := View.readAt (Elt Ideal) (ms0_1 t).view (Rect.unit (s := S1x512) ![0, 0] S1x512.size inb_S1x512_S1x512_0_0).toLoadRect ((hs0_1 t).unread (iblk m c 1 t))
abbrev wW : Vec Ideal S1024x512 .bf16 := View.readAt (Elt Ideal) (ms0_3 t).view (Rect.unit (s := S1024x512) ![0, 0] S1024x512.size inb_S1024x512_S1024x512_0_0).toLoadRect ((hs0_3 t).unread (iblk m c 3 t))
abbrev wI : Vec Ideal S1024x512 .bf16 := View.readAt (Elt Ideal) (ms0_4 t).view (Rect.unit (s := S1024x512) ![0, 0] S1024x512.size inb_S1024x512_S1024x512_0_0).toLoadRect ((hs0_4 t).unread (iblk m c 4 t))
abbrev wC : Vec Ideal S16x1024 .f32 := View.readAt (Elt Ideal) (ms0_6 t).view (Rect.unit (s := S16x1024) ![0, 0] S16x1024.size inb_S16x1024_S16x1024_0_0).toLoadRect ((hs0_6 t).unread (iblk m c 6 t))
abbrev wS : Vec Ideal S16x1024 .f32 := View.readAt (Elt Ideal) (ms0_7 t).view (Rect.unit (s := S16x1024) ![0, 0] S16x1024.size inb_S16x1024_S16x1024_0_0).toLoadRect ((hs0_7 t).unread (iblk m c 7 t))
abbrev wCi : Vec Ideal S8x1024 .f32 := View.readAt (Elt Ideal) (ms0_8 t).view (Rect.unit (s := S8x1024) ![0, 0] S8x1024.size inb_S8x1024_S8x1024_0_0).toLoadRect ((hs0_8 t).unread (iblk m c 8 t))
abbrev wSi : Vec Ideal S8x1024 .f32 := View.readAt (Elt Ideal) (ms0_9 t).view (Rect.unit (s := S8x1024) ![0, 0] S8x1024.size inb_S8x1024_S8x1024_0_0).toLoadRect ((hs0_9 t).unread (iblk m c 9 t))
abbrev wK : Vec Ideal S1024x256 .f32 := View.readAt (Elt Ideal) (ms0_0 t).view (Rect.unit (s := S1024x1024) ![0, 512] S1024x256.size inb_S1024x1024_S1024x256_0_512).toLoadRect ((hs0_0 t).unread (iblk m c 0 t))
abbrev wGk : Vec Ideal S1x256 .f32 := View.readAt (Elt Ideal) (ms0_2 t).view (Rect.unit (s := S1x256) ![0, 0] S1x256.size inb_S1x256_S1x256_0_0).toLoadRect ((hs0_2 t).unread (iblk m c 2 t))
abbrev wR : Vec Ideal S1024x128 .f32 := View.readAt (Elt Ideal) (ms0_0 t).view (Rect.unit (s := S1024x1024) ![0, 768] S1024x128.size inb_S1024x1024_S1024x128_0_768).toLoadRect ((hs0_0 t).unread (iblk m c 0 t))
abbrev wX : Vec Ideal S1024x128 .f32 := View.readAt (Elt Ideal) (ms0_0 t).view (Rect.unit (s := S1024x1024) ![0, 896] S1024x128.size inb_S1024x1024_S1024x128_0_896).toLoadRect ((hs0_0 t).unread (iblk m c 0 t))
abbrev wCk : Vec Ideal S1024x128 .f32 := View.readAt (Elt Ideal) (ms0_10 t).view (Rect.unit (s := S1024x128) ![0, 0] S1024x128.size inb_S1024x128_S1024x128_0_0).toLoadRect ((hs0_10 t).unread (iblk m c 10 t))
abbrev wSk : Vec Ideal S1024x128 .f32 := View.readAt (Elt Ideal) (ms0_11 t).view (Rect.unit (s := S1024x128) ![0, 0] S1024x128.size inb_S1024x128_S1024x128_0_0).toLoadRect ((hs0_11 t).unread (iblk m c 11 t))
abbrev wCx : Vec Ideal S1024x128 .f32 := View.readAt (Elt Ideal) (ms0_12 t).view (Rect.unit (s := S1024x128) ![0, 0] S1024x128.size inb_S1024x128_S1024x128_0_0).toLoadRect ((hs0_12 t).unread (iblk m c 12 t))
abbrev wSx : Vec Ideal S1024x128 .f32 := View.readAt (Elt Ideal) (ms0_13 t).view (Rect.unit (s := S1024x128) ![0, 0] S1024x128.size inb_S1024x128_S1024x128_0_0).toLoadRect ((hs0_13 t).unread (iblk m c 13 t))

theorem wQ_at (j : Fin 1024) (k : Fin 512) (r : Fin 16384) (h : r.val = 1024 * t.val + j.val) : wQ m c t (ix2 j k) = m ((c : Thread nD τ).loc main_arg0) (ix2 r ⟨k.val, by omega⟩) :=
  (ld _ _ _ _ _ _ _ (ix2 j ⟨k.val, by omega⟩) (fun a => by fin_cases a <;> simp [ix2])).trans (blk0 m c t j _ r h)
theorem wK_at (j : Fin 1024) (k : Fin 256) (r : Fin 16384) (h : r.val = 1024 * t.val + j.val) : wK m c t (ix2 j k) = m ((c : Thread nD τ).loc main_arg0) (ix2 r ⟨512 + k.val, by omega⟩) :=
  (ld _ _ _ _ _ _ _ (ix2 j ⟨512 + k.val, by omega⟩) (fun a => by fin_cases a <;> simp [ix2])).trans (blk0 m c t j _ r h)
theorem wR_at (j : Fin 1024) (k : Fin 128) (r : Fin 16384) (h : r.val = 1024 * t.val + j.val) : wR m c t (ix2 j k) = m ((c : Thread nD τ).loc main_arg0) (ix2 r ⟨768 + k.val, by omega⟩) :=
  (ld _ _ _ _ _ _ _ (ix2 j ⟨768 + k.val, by omega⟩) (fun a => by fin_cases a <;> simp [ix2])).trans (blk0 m c t j _ r h)
theorem wX_at (j : Fin 1024) (k : Fin 128) (r : Fin 16384) (h : r.val = 1024 * t.val + j.val) : wX m c t (ix2 j k) = m ((c : Thread nD τ).loc main_arg0) (ix2 r ⟨896 + k.val, by omega⟩) :=
  (ld _ _ _ _ _ _ _ (ix2 j ⟨896 + k.val, by omega⟩) (fun a => by fin_cases a <;> simp [ix2])).trans (blk0 m c t j _ r h)

/-- A load of a whole block reads the block. -/
theorem ld_whole {n k : ℕ} {e : EltTy} (mr : Memref sig .tc .vmem ⟨2, ![n, k]⟩ e) (h : mr.IsWhole) (x : (⟨2, ![n, k]⟩ : Shape).Idx → Elt Ideal e) (hb) (i : Fin n) (j : Fin k) :
    View.readAt (Elt Ideal) mr.view (Rect.unit (s := ⟨2, ![n, k]⟩) ![0, 0] ![n, k] hb).toLoadRect (h.unread x) (ix2 i j) = x (ix2 i j) :=
  ld mr h x _ _ hb _ _ (fun a => by fin_cases a <;> simp [ix2])

/-- A change of shape to the same shape changes nothing. -/
theorem shape_same {n k : ℕ} (x : (⟨2, ![n, k]⟩ : Shape).Idx → EReal) (h) (i : Fin n) (j : Fin k) : shapeCast (⟨2, ![n, k]⟩ : Shape) x h (ix2 i j) = x (ix2 i j) := by
  rw [shapeCast_self]
theorem cos_at (i : Fin 16) (j : Fin 1024) : k0_pay4 (wC m c t) (ix2 i j) = Ideal.cos (angle 0x42000000#32 ((1024 * t.val + j.val) % 4096) i.val) :=
  (shape_same (wC m c t) _ i j).trans ((ld_whole _ _ _ _ i j).trans (blk6 m c t i j))
theorem sin_at (i : Fin 16) (j : Fin 1024) : k0_pay5 (wS m c t) (ix2 i j) = Ideal.sin (angle 0x42000000#32 ((1024 * t.val + j.val) % 4096) i.val) :=
  (shape_same (wS m c t) _ i j).trans ((ld_whole _ _ _ _ i j).trans (blk7 m c t i j))
theorem cosIdx_at (i : Fin 8) (j : Fin 1024) : k0_pay169 (wCi m c t) (ix2 i j) = Ideal.cos (angle 0x41800000#32 ((1024 * t.val + j.val) % 4096) i.val) :=
  (shape_same (wCi m c t) _ i j).trans ((ld_whole _ _ _ _ i j).trans (blk8 m c t i j))
theorem sinIdx_at (i : Fin 8) (j : Fin 1024) : k0_pay170 (wSi m c t) (ix2 i j) = Ideal.sin (angle 0x41800000#32 ((1024 * t.val + j.val) % 4096) i.val) :=
  (shape_same (wSi m c t) _ i j).trans ((ld_whole _ _ _ _ i j).trans (blk9 m c t i j))
theorem query_at (n j : Fin 1024) (ht : t.val < 16) : k0_pay3 (wQ m c t) (wG m c t) (wW m c t) (ix2 n j) = query (m ((c : Thread nD τ).loc main_arg0)) (m ((c : Thread nD τ).loc main_arg1)) (m ((c : Thread nD τ).loc main_arg3)) ⟨1024 * t.val + j.val, by omega⟩ n :=
  query_word _ _ _ n j _ (fun k => wQ_at m c t j k _ rfl) (fun k => (ld_whole _ _ _ _ 0 k).trans (blk1 m c t k)) fun k => (ld_whole _ _ _ _ n k).trans (blk3 m c t n k)
theorem queryIdx_at (n j : Fin 1024) (ht : t.val < 16) : k0_pay168 (k0_pay2 (wQ m c t) (wG m c t)) (wI m c t) (ix2 n j) = query (m ((c : Thread nD τ).loc main_arg0)) (m ((c : Thread nD τ).loc main_arg1)) (m ((c : Thread nD τ).loc main_arg4)) ⟨1024 * t.val + j.val, by omega⟩ n :=
  query_word _ _ _ n j _ (fun k => wQ_at m c t j k _ rfl) (fun k => (ld_whole _ _ _ _ 0 k).trans (blk1 m c t k)) fun k => (ld_whole _ _ _ _ n k).trans (blk4 m c t n k)
theorem latent_at (j : Fin 1024) (k : Fin 256) (ht : t.val < 16) : k0_pay338 (wK m c t) (wGk m c t) (ix2 j k) = keyLatent (m ((c : Thread nD τ).loc main_arg0)) (m ((c : Thread nD τ).loc main_arg2)) ⟨1024 * t.val + j.val, by omega⟩ k :=
  latent_word _ _ j k _ (fun k => wK_at m c t j k _ rfl) fun k => (ld_whole _ _ _ _ 0 k).trans (blk2 m c t k)
end

/-! ## What the body leaves in each block -/

theorem left14 (t : Fin cfg0.N) (y : S8x2x288x512.Idx) : (outsAt0 m c t).1 y = catBlock (k0_pay3 (wQ m c t) (wG m c t) (wW m c t)) (k0_pay4 (wC m c t)) (k0_pay5 (wS m c t)) (iblk m c 5 t) y := by
  unfold outsAt0
  dsimp only
  unfold out0_A_14
  rw [View.read_writes_apply_eq_canon _ _ _ _ (cover0_A_14 ..)]
  refine View.canon_eq_of_allAt _ _ _ (cover0_A_14 ..) ?_
  unfold kernelRun0_A
  dsimp only
  repeat refine View.allAt_cons_unit _ _ _ _ _ (by
    first
      | exact rot_tile _ _ _ _ y _ _ _ _ _ _ (by decide) (by decide) (by decide) (by decide) (by decide) (by decide) (by decide) (by decide)
      | exact lat_tile _ _ _ _ _ y _ _ _ _ _ _ (by decide) (by decide) (ld_head _ _ _ _ _) (by decide) (by decide) (by decide) (by decide) (by decide) (by decide)) ?_
  exact View.allAt_nil _ _

theorem left15 (t : Fin cfg0.N) (y : S8x64x2048.Idx) : (outsAt0 m c t).2.1 y = idxBlock (k0_pay168 (k0_pay2 (wQ m c t) (wG m c t)) (wI m c t)) (k0_pay169 (wCi m c t)) (k0_pay170 (wSi m c t)) y := by
  unfold outsAt0
  dsimp only
  unfold out0_A_15
  rw [View.read_writes_apply_eq_canon _ _ _ _ (cover0_A_15 ..)]
  refine View.canon_eq_of_allAt _ _ _ (cover0_A_15 ..) ?_
  unfold kernelRun0_A
  dsimp only
  repeat refine View.allAt_cons_unit _ _ _ _ _ (idx_tile _ _ _ y _ _ _ _ _ _ (by decide) (by decide) (by decide) (by decide) (by decide) (by decide) (by decide) (by decide) (by decide) (by decide)) ?_
  exact View.allAt_nil _ _

theorem left16 (t : Fin cfg0.N) (y : S8x16x128.Idx) : (outsAt0 m c t).2.2.1 y = k0_pay328 (wX m c t) (ix2 (y 1) ⟨128 * (y 0).val + (y 2).val, by have : (y 0).val < 8 := (y 0).isLt; have : (y 2).val < 128 := (y 2).isLt; omega⟩) := by
  unfold outsAt0
  dsimp only
  unfold out0_A_16
  rw [View.read_writes_apply_eq_canon _ _ _ _ (cover0_A_16 ..)]
  refine View.canon_eq_of_allAt _ _ _ (cover0_A_16 ..) ?_
  unfold kernelRun0_A
  dsimp only
  repeat refine View.allAt_cons_unit _ _ _ _ _ (wt_tile (k0_pay328 (wX m c t)) y _ _ (by decide) (by decide)) ?_
  exact View.allAt_nil _ _

theorem left19 (t : Fin cfg0.N) (y : S2x256x512.Idx) : (outsAt0 m c t).2.2.2.2.2 y = k0_pay338 (wK m c t) (wGk m c t) (ix2 ⟨512 * (y 0).val + (y 2).val, by have : (y 0).val < 2 := (y 0).isLt; have : (y 2).val < 512 := (y 2).isLt; omega⟩ (y 1)) := by
  unfold outsAt0
  dsimp only
  unfold out0_A_19
  rw [View.read_writes_apply_eq_canon _ _ _ _ (cover0_A_19 ..)]
  refine View.canon_eq_of_allAt _ _ _ (cover0_A_19 ..) ?_
  unfold kernelRun0_A
  dsimp only
  repeat refine View.allAt_cons_unit _ _ _ _ _ (kv_tile _ y _ _ (by decide) (by decide)) ?_
  exact View.allAt_nil _ _

theorem left17 (t : Fin cfg0.N) (j : Fin 1024) (q : Fin 288) (ht : t.val < 16) : (outsAt0 m c t).2.2.2.1 (ix2 j q) = keyAt (m ((c : Thread nD τ).loc main_arg0)) (m ((c : Thread nD τ).loc main_arg2)) ⟨1024 * t.val + j.val, by omega⟩ q := by
  unfold outsAt0
  dsimp only
  unfold out0_A_17
  rw [View.read_writes_apply_eq_canon _ _ _ _ (cover0_A_17 ..)]
  refine View.canon_eq_of_allAt _ _ _ (cover0_A_17 ..) ?_
  unfold kernelRun0_A
  dsimp only
  refine View.allAt_cons_unit _ _ _ _ _ (col_tile _ j q 256 _ fun k hk => ?_) (View.allAt_cons_unit _ _ _ _ _ (col_tile _ j q 0 _ fun k hk => ?_) ?_)
  · rw [show q = ⟨256 + k.val, by omega⟩ from Fin.ext hk]
    exact key_word (gk := (m ((c : Thread nD τ).loc main_arg2))) (wR m c t) (wCk m c t) (wSk m c t) j k _ (fun i => wR_at m c t j i _ rfl) (fun i => (ld_whole _ _ _ _ j i).trans (blk10 m c t j i))
      fun i => (ld_whole _ _ _ _ j i).trans (blk11 m c t j i)
  · refine (latent_at m c t j k ht).trans ?_
    unfold keyAt
    rw [dif_pos (by omega)]
    exact congrArg _ (Fin.ext (by simp; omega))
  exact View.allAt_nil _ _

theorem left18 (t : Fin cfg0.N) (j : Fin 1024) (q : Fin 64) (ht : t.val < 16) : (outsAt0 m c t).2.2.2.2.1 (ix2 j q) = keyIdxAt (m ((c : Thread nD τ).loc main_arg0)) ⟨1024 * t.val + j.val, by omega⟩ q := by
  unfold outsAt0
  dsimp only
  unfold out0_A_18
  rw [View.read_writes_apply_eq_canon _ _ _ _ (cover0_A_18 ..)]
  refine View.canon_eq_of_allAt _ _ _ (cover0_A_18 ..) ?_
  unfold kernelRun0_A
  dsimp only
  refine View.allAt_cons_unit _ _ _ _ _ (col_tile _ j q 0 _ fun k hk => ?_) ?_
  · obtain rfl : q = k := Fin.ext (by omega)
    exact keyIdx_word (wX m c t) (wCx m c t) (wSx m c t) j q _ (fun i => wX_at m c t j i _ rfl) (fun i => (ld_whole _ _ _ _ j i).trans (blk12 m c t j i))
      fun i => (ld_whole _ _ _ _ j i).trans (blk13 m c t j i)
  exact View.allAt_nil _ _

/-! ## The arrays -/

theorem final14 : (dats m 0 c).arrAt 14 cfg0.N = cat (m ((c : Thread nD τ).loc main_arg0)) (m ((c : Thread nD τ).loc main_arg1)) (m ((c : Thread nD τ).loc main_arg3)) (m ((c : Thread nD τ).loc main_arg5)) := by
  refine (dats m 0 c).arrAt_eq_of_covers 14 _ (by decide +kernel) fun t hf y => ?_
  blk_simp
  rw [after0_14]
  have ht := points t
  obtain ⟨b, v, i, q, rfl⟩ : ∃ (b : Fin 8) (v : Fin 2) (i : Fin 288) (q : Fin 512), y = ix4 b v i q := ⟨y 0, y 1, y 2, y 3, eq_ix4 y⟩
  have he : ((View.whole main_v66_0).slice (win0_14.rect t)).emb (ix4 b v i q) = ix4 (⟨8 * t.val + b.val, by omega⟩ : Fin 128) v i q := by blk_ext [e14]
  rw [he]
  rw [left14]
  exact cat_block _ _ _ _ t.val ht (fun n j => query_at m c t n j ht) (cos_at m c t) (sin_at m c t) (fun h r k => blk5 m c t h r k) b v i q

theorem final15 : (dats m 0 c).arrAt 15 cfg0.N = idx (m ((c : Thread nD τ).loc main_arg0)) (m ((c : Thread nD τ).loc main_arg1)) (m ((c : Thread nD τ).loc main_arg4)) := by
  refine (dats m 0 c).arrAt_eq_of_covers 15 _ (by decide +kernel) fun t hf y => ?_
  blk_simp
  rw [after0_15]
  have ht := points t
  obtain ⟨b, i, q, rfl⟩ : ∃ (b : Fin 8) (i : Fin 64) (q : Fin 2048), y = ix3 b i q := ⟨y 0, y 1, y 2, eq_ix3 y⟩
  have he : ((View.whole main_v66_1).slice (win0_15.rect t)).emb (ix3 b i q) = ix3 (⟨8 * t.val + b.val, by omega⟩ : Fin 128) i q := by blk_ext [e15]
  rw [he]
  rw [left15]
  exact idx_block _ _ _ t.val ht (fun n j => queryIdx_at m c t n j ht) (cosIdx_at m c t) (sinIdx_at m c t) b i q

theorem final16 : (dats m 0 c).arrAt 16 cfg0.N = weights (m ((c : Thread nD τ).loc main_arg0)) := by
  refine (dats m 0 c).arrAt_eq_of_covers 16 _ (by decide +kernel) fun t hf y => ?_
  blk_simp
  rw [after0_16]
  have ht := points t
  obtain ⟨b, h, l, rfl⟩ : ∃ (b : Fin 8) (h : Fin 16) (l : Fin 128), y = ix3 b h l := ⟨y 0, y 1, y 2, eq_ix3 y⟩
  have he : ((View.whole main_v66_2).slice (win0_16.rect t)).emb (ix3 b h l) = ix3 (⟨8 * t.val + b.val, by omega⟩ : Fin 128) h l := by blk_ext [e16]
  rw [he]
  rw [left16]
  have er : 1024 * t.val + (128 * b.val + l.val) = 128 * (8 * t.val + b.val) + l.val := by omega
  show k0_pay328 (wX m c t) (ix2 h ⟨128 * b.val + l.val, _⟩) = _
  unfold k0_pay328
  pointwise
  rw [wX_at m c t _ _ ⟨128 * (8 * t.val + b.val) + l.val, by omega⟩ (by simp; omega)]
  have el : 896 + (64 + h.val) = 960 + h.val := by omega
  simp only [el]
  rfl

theorem final17 : (dats m 0 c).arrAt 17 cfg0.N = keys (m ((c : Thread nD τ).loc main_arg0)) (m ((c : Thread nD τ).loc main_arg2)) := by
  refine (dats m 0 c).arrAt_eq_of_covers 17 _ (by decide +kernel) fun t hf y => ?_
  blk_simp
  rw [after0_17]
  have ht := points t
  obtain ⟨j, q, rfl⟩ : ∃ (j : Fin 1024) (q : Fin 288), y = ix2 j q := ⟨y 0, y 1, eq_ix2 y⟩
  have he : ((View.whole main_v66_3).slice (win0_17.rect t)).emb (ix2 j q) = ix2 (⟨1024 * t.val + j.val, by omega⟩ : Fin 16384) q := by blk_ext [e17]
  rw [he]
  exact left17 m c t j q ht

theorem final18 : (dats m 0 c).arrAt 18 cfg0.N = keysIdx (m ((c : Thread nD τ).loc main_arg0)) := by
  refine (dats m 0 c).arrAt_eq_of_covers 18 _ (by decide +kernel) fun t hf y => ?_
  blk_simp
  rw [after0_18]
  have ht := points t
  obtain ⟨j, q, rfl⟩ : ∃ (j : Fin 1024) (q : Fin 64), y = ix2 j q := ⟨y 0, y 1, eq_ix2 y⟩
  have he : ((View.whole main_v66_4).slice (win0_18.rect t)).emb (ix2 j q) = ix2 (⟨1024 * t.val + j.val, by omega⟩ : Fin 16384) q := by blk_ext [e18]
  rw [he]
  exact left18 m c t j q ht

theorem final19 : (dats m 0 c).arrAt 19 cfg0.N = latents (m ((c : Thread nD τ).loc main_arg0)) (m ((c : Thread nD τ).loc main_arg2)) := by
  refine (dats m 0 c).arrAt_eq_of_covers 19 _ (by decide +kernel) fun t hf y => ?_
  blk_simp
  rw [after0_19]
  have ht := points t
  obtain ⟨b, k, l, rfl⟩ : ∃ (b : Fin 2) (k : Fin 256) (l : Fin 512), y = ix3 b k l := ⟨y 0, y 1, y 2, eq_ix3 y⟩
  have he : ((View.whole main_v66_5).slice (win0_19.rect t)).emb (ix3 b k l) = ix3 (⟨2 * t.val + b.val, by omega⟩ : Fin 32) k l := by blk_ext [e19]
  rw [he]
  rw [left19]
  have er : 1024 * t.val + (512 * b.val + l.val) = 512 * (2 * t.val + b.val) + l.val := by omega
  refine (latent_at m c t _ _ ht).trans ?_
  show keyLatent _ _ ⟨1024 * t.val + (512 * b.val + l.val), _⟩ k = keyLatent _ _ ⟨512 * (2 * t.val + b.val) + l.val, _⟩ k
  simp only [er]

end Cert.PrepKernelIdeal.PrepValue
-- ==== Proof.PrepReference.lean ====
/- The reference's results are the stated ones. -/
module

public import proofs.«01_k».proof.Proof.PrepSpec
public import proofs.«01_k».proof.Proof.Gen.PrepReferenceIdeal.Run

@[expose] public section

set_option maxRecDepth 16384

noncomputable section

namespace Cert.PrepReferenceIdeal.PrepValue

open Cert.PrepReferenceIdeal Cert.PrepReferenceIdeal.Gen Cert.PrepReferenceIdeal.Value Cert.PrepSpec
open Idealize.ShloMosaic Idealize.ShloMosaic.TcCoe

variable (V : Valuation τ sig (Elt Ideal))

theorem cat_at (b : Fin 128) (v : Fin 2) (r : Fin 288) (q : Fin 512) :
    (show FVec Ideal S128x2x288x512 .bf16 from truncf .bf16 (shapeCast _ (transpose S128x2x288x4x128 [0, 2, 4, 3, 1] (shapeCast _ (mulf (concatenate S4x4096x8x288 3 [⟨S4x4096x8x256, (transpose S4x4096x8x256 [2, 3, 0, 1] (Host.dotGeneral (φ₁ := .f32) (φ₂ := .f32) dot_S8x96x256_S4x4096x8x96_S8x256x4x4096_1_3_2_01_0_2 none (V (Proc.devRef .tc main_arg5)) (extractStridedSlice S4x4096x8x96 ![0, 0, 0, 32] (res_main_v54 V) slices_S4x4096x8x128_S4x4096x8x96_0_0_0_32)) transposes_S8x256x4x4096_S4x4096x8x256_2_3_0_1)⟩, ⟨S4x4096x8x32, (extractStridedSlice S4x4096x8x32 ![0, 0, 0, 0] (res_main_v54 V) slices_S4x4096x8x128_S4x4096x8x32_0_0_0_0)⟩] concatenates_S4x4096x8x256_S4x4096x8x32_S4x4096x8x288_d3) (broadcastInDim S4x4096x8x288 ![] bcast_S_S4x4096x8x288 (constant S_ .f32 0x3E0293EE#32))) shapeCasts_S4x4096x8x288_S128x128x2x4x288) transposes_S128x128x2x4x288_S128x2x288x4x128_0_2_4_3_1) shapeCasts_S128x2x288x4x128_S128x2x288x512) bitsLt_bf16_f32) (ix4 b v r q) = cat (V (Proc.devRef .tc main_arg0)) (V (Proc.devRef .tc main_arg1)) (V (Proc.devRef .tc main_arg3)) (V (Proc.devRef .tc main_arg5)) (ix4 b v r q) := by
  simp only [res_main_v0, res_main_v1, res_main_v18, res_main_v20, res_main_v36, res_main_v38, res_main_v40, res_main_v41, res_main_v42, res_main_v54]
  have ep : b.val % 32 * 128 + q.val % 128 = (128 * b.val + q.val % 128) % 4096 := by omega
  have er : b.val / 32 * 4096 + (128 * b.val + q.val % 128) % 4096 = 128 * b.val + q.val % 128 := by omega
  have eh : v.val * 4 + q.val / 128 = 4 * v.val + q.val / 128 := by omega
  have em : (4 * v.val + q.val / 128) * 128 = 128 * (4 * v.val + q.val / 128) := by omega
  pointwise
  simp only [ep, er, eh, em]
  show _ = catAt _ _ _ _ ⟨128 * b.val + q.val % 128, _⟩ ⟨4 * v.val + q.val / 128, _⟩ r
  unfold catAt query latent factor angle
  by_cases h1 : r.val < 256
  · simp only [h1, dif_pos]
    refine congrArg (· * _) (Finset.sum_congr rfl fun x _ => congrArg _ ?_)
    have g1 : ¬ 32 + x.val < 16 := by omega
    have g2 : ¬ 32 + x.val - 16 < 16 := by omega
    have g3 : 32 + (32 + x.val - 16 - 16) = 32 + x.val := by omega
    simp only [g1, g2, g3, dif_neg, not_false_eq_true]
  · by_cases h2 : r.val - 256 < 16
    · simp only [h1, h2, dif_pos, dif_neg, not_false_eq_true]
    · have h3 : r.val - 256 - 16 < 16 := by omega
      simp only [h1, h2, h3, dif_pos, dif_neg, not_false_eq_true]

theorem idx_at (b : Fin 128) (r : Fin 64) (q : Fin 2048) :
    (show FVec Ideal S128x64x2048 .bf16 from truncf .bf16 (shapeCast _ (transpose S128x64x16x128 [0, 3, 2, 1] (shapeCast _ ((concatenate S4x4096x16x64 3 [⟨S4x4096x16x8, ((subf (mulf (res_main_v81 V) (broadcastInDim S4x4096x16x8 ![0, 1, 2, 3] bcast_S1x4096x1x8_S4x4096x16x8_0_1_2_3 (res_main_v78 V))) (mulf (res_main_v82 V) (broadcastInDim S4x4096x16x8 ![0, 1, 2, 3] bcast_S1x4096x1x8_S4x4096x16x8_0_1_2_3 (res_main_v80 V)))) : (⟨S4x4096x16x8, .f32⟩ : BufTy).Contents (Elt Ideal))⟩, ⟨S4x4096x16x8, ((addf (mulf (res_main_v82 V) (broadcastInDim S4x4096x16x8 ![0, 1, 2, 3] bcast_S1x4096x1x8_S4x4096x16x8_0_1_2_3 (res_main_v78 V))) (mulf (res_main_v81 V) (broadcastInDim S4x4096x16x8 ![0, 1, 2, 3] bcast_S1x4096x1x8_S4x4096x16x8_0_1_2_3 (res_main_v80 V)))) : (⟨S4x4096x16x8, .f32⟩ : BufTy).Contents (Elt Ideal))⟩, ⟨S4x4096x16x48, ((extractStridedSlice S4x4096x16x48 ![0, 0, 0, 16] (res_main_v60 V) slices_S4x4096x16x64_S4x4096x16x48_0_0_0_16) : (⟨S4x4096x16x48, .f32⟩ : BufTy).Contents (Elt Ideal))⟩] concatenates_S4x4096x16x8_S4x4096x16x8_S4x4096x16x48_S4x4096x16x64_d3 : (⟨S4x4096x16x64, .f32⟩ : BufTy).Contents (Elt Ideal))) shapeCasts_S4x4096x16x64_S128x128x16x64) transposes_S128x128x16x64_S128x64x16x128_0_3_2_1) shapeCasts_S128x64x16x128_S128x64x2048) bitsLt_bf16_f32) (ix3 b r q) = idx (V (Proc.devRef .tc main_arg0)) (V (Proc.devRef .tc main_arg1)) (V (Proc.devRef .tc main_arg4)) (ix3 b r q) := by
  simp only [res_main_v0, res_main_v1, res_main_v18, res_main_v60, res_main_v76, res_main_v78, res_main_v80, res_main_v81, res_main_v82]
  have ep : b.val % 32 * 128 + q.val % 128 = (128 * b.val + q.val % 128) % 4096 := by omega
  have er : b.val / 32 * 4096 + (128 * b.val + q.val % 128) % 4096 = 128 * b.val + q.val % 128 := by omega
  have em : q.val / 128 * 64 = 64 * (q.val / 128) := by omega
  pointwise
  simp only [ep, er, em]
  rfl

theorem weights_at (b : Fin 128) (h : Fin 16) (l : Fin 128) :
    (show FVec Ideal S128x16x128 .f32 from transpose S128x16x128 [0, 2, 1] (shapeCast _ (mulf (extractStridedSlice S4x4096x16 ![0, 0, 960] (res_main_v0 V) slices_S4x4096x1024_S4x4096x16_0_0_960) (broadcastInDim S4x4096x16 ![] bcast_S_S4x4096x16 (constant S_ .f32 0x3D000000#32))) shapeCasts_S4x4096x16_S128x128x16) transposes_S128x128x16_S128x16x128_0_2_1) (ix3 b h l) = weights (V (Proc.devRef .tc main_arg0)) (ix3 b h l) := by
  simp only [res_main_v0]
  have er : b.val / 32 * 4096 + (b.val % 32 * 128 + l.val) = 128 * b.val + l.val := by omega
  pointwise
  simp only [er]
  rfl

theorem keys_at (r : Fin 16384) (k : Fin 288) :
    (show FVec Ideal S16384x288 .bf16 from truncf .bf16 (shapeCast _ (concatenate S4x4096x288 2 [⟨S4x4096x256, (res_main_v109 V)⟩, ⟨S4x4096x32, (shapeCast _ ((concatenate S4x4096x1x32 3 [⟨S4x4096x1x16, ((subf (mulf (res_main_v131 V) (broadcastInDim S4x4096x1x16 ![0, 1, 2, 3] bcast_S1x4096x1x16_S4x4096x1x16_0_1_2_3 (res_main_v128 V))) (mulf (res_main_v132 V) (broadcastInDim S4x4096x1x16 ![0, 1, 2, 3] bcast_S1x4096x1x16_S4x4096x1x16_0_1_2_3 (res_main_v130 V)))) : (⟨S4x4096x1x16, .f32⟩ : BufTy).Contents (Elt Ideal))⟩, ⟨S4x4096x1x16, ((addf (mulf (res_main_v132 V) (broadcastInDim S4x4096x1x16 ![0, 1, 2, 3] bcast_S1x4096x1x16_S4x4096x1x16_0_1_2_3 (res_main_v128 V))) (mulf (res_main_v131 V) (broadcastInDim S4x4096x1x16 ![0, 1, 2, 3] bcast_S1x4096x1x16_S4x4096x1x16_0_1_2_3 (res_main_v130 V)))) : (⟨S4x4096x1x16, .f32⟩ : BufTy).Contents (Elt Ideal))⟩, ⟨S4x4096x1x0, ((extractStridedSlice S4x4096x1x0 ![0, 0, 0, 32] (res_main_v110 V) slices_S4x4096x1x32_S4x4096x1x0_0_0_0_32) : (⟨S4x4096x1x0, .f32⟩ : BufTy).Contents (Elt Ideal))⟩] concatenates_S4x4096x1x16_S4x4096x1x16_S4x4096x1x0_S4x4096x1x32_d3 : (⟨S4x4096x1x32, .f32⟩ : BufTy).Contents (Elt Ideal))) shapeCasts_S4x4096x1x32_S4x4096x32)⟩] concatenates_S4x4096x256_S4x4096x32_S4x4096x288_d2) shapeCasts_S4x4096x288_S16384x288) bitsLt_bf16_f32) (ix2 r k) = keys (V (Proc.devRef .tc main_arg0)) (V (Proc.devRef .tc main_arg2)) (ix2 r k) := by
  simp only [res_main_v0, res_main_v2, res_main_v109, res_main_v110, res_main_v126, res_main_v128, res_main_v130, res_main_v131, res_main_v132]
  pointwise
  show _ = keyAt _ _ r k
  unfold keyAt keyLatent factor angle
  by_cases h1 : k.val < 256
  · simp only [h1, dif_pos]
  · by_cases h2 : k.val - 256 < 16
    · simp only [h1, h2, dif_pos, dif_neg, not_false_eq_true]
    · have h3 : k.val - 256 - 16 < 16 := by omega
      simp only [h1, h2, h3, dif_pos, dif_neg, not_false_eq_true]

theorem keysIdx_at (r : Fin 16384) (k : Fin 64) :
    (show FVec Ideal S16384x64 .bf16 from truncf .bf16 (shapeCast _ (shapeCast _ ((concatenate S4x4096x1x64 3 [⟨S4x4096x1x8, ((subf (mulf (res_main_v167 V) (broadcastInDim S4x4096x1x8 ![0, 1, 2, 3] bcast_S1x4096x1x8_S4x4096x1x8_0_1_2_3 (res_main_v164 V))) (mulf (res_main_v168 V) (broadcastInDim S4x4096x1x8 ![0, 1, 2, 3] bcast_S1x4096x1x8_S4x4096x1x8_0_1_2_3 (res_main_v166 V)))) : (⟨S4x4096x1x8, .f32⟩ : BufTy).Contents (Elt Ideal))⟩, ⟨S4x4096x1x8, ((addf (mulf (res_main_v168 V) (broadcastInDim S4x4096x1x8 ![0, 1, 2, 3] bcast_S1x4096x1x8_S4x4096x1x8_0_1_2_3 (res_main_v164 V))) (mulf (res_main_v167 V) (broadcastInDim S4x4096x1x8 ![0, 1, 2, 3] bcast_S1x4096x1x8_S4x4096x1x8_0_1_2_3 (res_main_v166 V)))) : (⟨S4x4096x1x8, .f32⟩ : BufTy).Contents (Elt Ideal))⟩, ⟨S4x4096x1x48, ((extractStridedSlice S4x4096x1x48 ![0, 0, 0, 16] (res_main_v146 V) slices_S4x4096x1x64_S4x4096x1x48_0_0_0_16) : (⟨S4x4096x1x48, .f32⟩ : BufTy).Contents (Elt Ideal))⟩] concatenates_S4x4096x1x8_S4x4096x1x8_S4x4096x1x48_S4x4096x1x64_d3 : (⟨S4x4096x1x64, .f32⟩ : BufTy).Contents (Elt Ideal))) shapeCasts_S4x4096x1x64_S4x4096x64) shapeCasts_S4x4096x64_S16384x64) bitsLt_bf16_f32) (ix2 r k) = keysIdx (V (Proc.devRef .tc main_arg0)) (ix2 r k) := by
  simp only [res_main_v0, res_main_v146, res_main_v162, res_main_v164, res_main_v166, res_main_v167, res_main_v168]
  pointwise
  rfl

theorem latents_at (b : Fin 32) (k : Fin 256) (l : Fin 512) :
    (show FVec Ideal S32x256x512 .bf16 from truncf .bf16 (transpose S32x256x512 [0, 2, 1] (shapeCast _ (res_main_v109 V) shapeCasts_S4x4096x256_S32x512x256) transposes_S32x512x256_S32x256x512_0_2_1) bitsLt_bf16_f32) (ix3 b k l) = latents (V (Proc.devRef .tc main_arg0)) (V (Proc.devRef .tc main_arg2)) (ix3 b k l) := by
  simp only [res_main_v0, res_main_v2, res_main_v109]
  have er : b.val / 8 * 4096 + (b.val % 8 * 512 + l.val) = 512 * b.val + l.val := by omega
  pointwise
  simp only [er]
  rfl

end Cert.PrepReferenceIdeal.PrepValue

end
-- ==== Proof.PrepClaims.lean ====
/- The claims about the attention's preparation. -/
module

public import proofs.«01_k».proof.Defs
public import proofs.«01_k».proof.Proof.PrepValue
public import proofs.«01_k».proof.Proof.PrepReference
public import proofs.«01_k».proof.Proof.Gen.PrepKernel.Frame
public import Idealize.ShloMosaic.Lib.Quiescent

@[expose] public section

set_option maxRecDepth 16384

noncomputable section

open Idealize.ShloMosaic Idealize.ShloMosaic.TcCoe Idealize.SL.Sem

namespace Cert.Proof.PrepClaims

theorem frame_p : Cert.quiescent_PrepKernel := fun m ρ _ => Cert.PrepKernel.Gen.frame m ρ
theorem frame_pi : Cert.quiescent_PrepKernelIdeal := fun m ρ _ => Cert.PrepKernelIdeal.Gen.frame m ρ
theorem frame_ri : Cert.quiescent_PrepReferenceIdeal := fun m ρ _ =>
  (θ_run Cert.PrepReferenceIdeal.defs _ _).mono (fun r h => ⟨fun c => (h c).2.2.2.2.2.2,
      Idealize.ShloMosaic.sem_eq_zero_of_no_sems (by decide) r.2⟩)
    (Cert.PrepReferenceIdeal.Value.run (F := Ideal) m ρ)
theorem preserves : Cert.preserves_PrepKernel_PrepKernelIdeal := trivial

/-- Two arrays with two coordinates are equal when they are equal at each pair of coordinates. -/
theorem ext2 {α : Type} {n0 n1 : Nat} {T T' : (⟨2, ![n0, n1]⟩ : Shape).Idx → α} (h : ∀ a b, T (ix2 a b) = T' (ix2 a b)) : T = T' :=
  funext fun y => eq_ix2 y ▸ h _ _

/-- Two arrays with three coordinates are equal when they are equal at each three coordinates. -/
theorem ext3 {α : Type} {n0 n1 n2 : Nat} {T T' : (⟨3, ![n0, n1, n2]⟩ : Shape).Idx → α} (h : ∀ a b c, T (ix3 a b c) = T' (ix3 a b c)) : T = T' :=
  funext fun y => eq_ix3 y ▸ h _ _ _

/-- Two arrays with four coordinates are equal when they are equal at each four coordinates. -/
theorem ext4 {α : Type} {n0 n1 n2 n3 : Nat} {T T' : (⟨4, ![n0, n1, n2, n3]⟩ : Shape).Idx → α} (h : ∀ a b c d, T (ix4 a b c d) = T' (ix4 a b c d)) : T = T' :=
  funext fun y => eq_ix4 y ▸ h _ _ _ _

/-- Both runs end with the same six results: the kernel's by its blocks, the reference's by its operations. -/
theorem algebraic : Cert.algebraic_PrepKernelIdeal_PrepReferenceIdeal := by
  intro m ρ m' ρ' _ hagree
  refine ⟨_, _, _, _, _, _, Cert.PrepKernelIdeal.Value.run_blocks (F := Ideal) m ρ, ?_⟩
  refine (θ_run Cert.PrepReferenceIdeal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩)
    (Cert.PrepReferenceIdeal.Value.run (F := Ideal) m' ρ')
  · refine Eq.trans (ext4 (Cert.PrepReferenceIdeal.PrepValue.cat_at (StableHlo.launchContents m' c))) (Eq.trans ?_ (Cert.PrepKernelIdeal.PrepValue.final14 m c).symm)
    rw [← (hagree c).1, ← (hagree c).2.1, ← (hagree c).2.2.2.1, ← (hagree c).2.2.2.2.2]
  · refine Eq.trans (ext3 (Cert.PrepReferenceIdeal.PrepValue.idx_at (StableHlo.launchContents m' c))) (Eq.trans ?_ (Cert.PrepKernelIdeal.PrepValue.final15 m c).symm)
    rw [← (hagree c).1, ← (hagree c).2.1, ← (hagree c).2.2.2.2.1]
  · refine Eq.trans (ext3 (Cert.PrepReferenceIdeal.PrepValue.weights_at (StableHlo.launchContents m' c))) (Eq.trans ?_ (Cert.PrepKernelIdeal.PrepValue.final16 m c).symm)
    rw [← (hagree c).1]
  · refine Eq.trans (ext2 (Cert.PrepReferenceIdeal.PrepValue.keys_at (StableHlo.launchContents m' c))) (Eq.trans ?_ (Cert.PrepKernelIdeal.PrepValue.final17 m c).symm)
    rw [← (hagree c).1, ← (hagree c).2.2.1]
  · refine Eq.trans (ext2 (Cert.PrepReferenceIdeal.PrepValue.keysIdx_at (StableHlo.launchContents m' c))) (Eq.trans ?_ (Cert.PrepKernelIdeal.PrepValue.final18 m c).symm)
    rw [← (hagree c).1]
  · refine Eq.trans (ext3 (Cert.PrepReferenceIdeal.PrepValue.latents_at (StableHlo.launchContents m' c))) (Eq.trans ?_ (Cert.PrepKernelIdeal.PrepValue.final19 m c).symm)
    rw [← (hagree c).1, ← (hagree c).2.2.1]

end Cert.Proof.PrepClaims

end
-- ==== Proof.ModValue.lean ====
/- What the modulation's kernel and its reference compute. -/
module

public import proofs.«01_k».proof.Defs
public import proofs.«01_k».proof.Proof.Gen.ModKernel.Frame
public import proofs.«01_k».proof.Proof.Gen.ModKernelIdeal.Value
public import proofs.«01_k».proof.Proof.Gen.ModReferenceIdeal.Run
public import Idealize.ShloMosaic.Lib.Pipeline.ValueKit
public import Idealize.ShloMosaic.Lib.Pointwise
public import Idealize.ShloMosaic.Lib.IdealHost
public import Idealize.ShloMosaic.Lib.Quiescent

@[expose] public section

set_option maxRecDepth 100000

noncomputable section

open Idealize.ShloMosaic Idealize.ShloMosaic.TcCoe Idealize.SL.Sem

namespace Cert.ModValue

abbrev C := Cert.ModKernelIdeal.S16x2048.Idx → EReal
abbrev W := Cert.ModKernelIdeal.S2048x6144.Idx → EReal
abbrev B := Cert.ModKernelIdeal.S6144.Idx → EReal

/-- A number times its logistic. -/
def gated (x : EReal) : EReal := x * Ideal.div 1 (1 + Ideal.exp (-x))

/-- The modulation: row `r`, column `d`. -/
def result (c : C) (w : W) (b : B) (y : Cert.ModKernelIdeal.S16x6144.Idx) : EReal :=
  (∑ k : Fin 2048, gated (c (ix2 (y 0) k)) * w (ix2 k (y 1))) + b (ix1 (y 1))

/-- A number that is less than infinity in size is a real number. -/
theorem real_of_finite {x : EReal} (h : Ideal.cmp .olt (max x (-x)) (Ideal.ofBits .f32 0x7F800000#32) = 1#1) : ∃ r : ℝ, x = r := by
  have ht : Ideal.ofBits .f32 0x7F800000#32 = (⊤ : EReal) := by simp [Ideal.ofBits, Ideal.ieee]
  rw [ht] at h
  induction x with
  | bot => simp [Ideal.cmp] at h
  | top => simp [Ideal.cmp] at h
  | coe r => exact ⟨r, rfl⟩

/-- A real number less itself is zero. -/
theorem sub_self_real {x : EReal} (h : ∃ r : ℝ, x = r) : x - x = 0 := by
  obtain ⟨r, rfl⟩ := h
  rw [← EReal.coe_sub, sub_self, EReal.coe_zero]

/-- The gated value of a real number is a real number. -/
theorem gated_real {x : EReal} (h : ∃ r : ℝ, x = r) : ∃ r : ℝ, gated x = r := by
  obtain ⟨r, rfl⟩ := h
  refine ⟨r * (1 / (1 + Real.exp (-r))), ?_⟩
  unfold gated
  rw [← EReal.coe_neg, Ideal.exp_coe, ← EReal.coe_one, ← EReal.coe_add, Ideal.div_coe (by positivity), ← EReal.coe_mul, ← EReal.coe_mul, one_mul]

end Cert.ModValue

namespace Cert.ModKernelIdeal.ModValue

open Cert.ModKernelIdeal Cert.ModKernelIdeal.Gen Cert.ModValue

/-- What a block's position holds, when the block's columns are the columns from `o` on: the two parts that rounding would leave are zero. -/
theorem pay_apply (v0 : Vec Ideal S16x2048 .f32) (v7 : Vec Ideal S2048x1024 .f32) (v17 : Vec Ideal S1x1024 .f32) {c : C} {w : W} {b : B}
    (hc : ∀ y, ∃ r : ℝ, c y = r) (hw : ∀ y, ∃ r : ℝ, w y = r) (i : Fin 16) (j : Fin 1024) (d : Fin 6144)
    (h0 : ∀ k, v0 (ix2 i k) = c (ix2 i k)) (h7 : ∀ k, v7 (ix2 k j) = w (ix2 k d)) (h17 : v17 (ix2 0 j) = b (ix1 d)) :
    k0_pay1 (F := Ideal) v0 v7 v17 (ix2 i j) = result c w b (ix2 i d) := by
  have ha : ∀ k, gated (c (ix2 i k)) - gated (c (ix2 i k)) = 0 := fun k => sub_self_real (gated_real (hc _))
  have hz : ∀ k, w (ix2 k d) - w (ix2 k d) = 0 := fun k => sub_self_real (hw _)
  unfold k0_pay1
  pointwise
  simp only [Ideal.logistic, h0, h7, h17]
  simp only [gated] at ha
  simp only [ha, hz, mul_zero, zero_mul, Finset.sum_const_zero, add_zero]
  rfl

variable (m : (ℓ : Loc nD τ sig) → Buf (Elt Ideal) ℓ) (c : Dev nD)

theorem e0 : ∀ t : Fin cfg0.N, win0_0.index t = ![0, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, t.val] := (by decide +kernel : ∀ t : Fin grid0.N, _)

theorem points (t : Fin cfg0.N) : t.val < 6 := t.isLt

theorem V_b : V (F := Ideal) m c main_v0 = (shapeCast S1x6144 (m ((c : Thread nD τ).loc main_arg2) : FVec Ideal S6144 .f32) shapeCasts_S6144_S1x6144 : FVec Ideal S1x6144 .f32) := by
  dsimp only [V]
  after_results <;> rfl

theorem blk0 (t : Fin cfg0.N) (i : Fin 16) (k : Fin 2048) :
    iblk m c 0 t (ix2 i k) = m ((c : Thread nD τ).loc main_arg0) (ix2 i k) := by
  blk_simp [iblk]
  rw [V_main_arg0]
  congr 1
  blk_ext [e0]
theorem blk1 (t : Fin cfg0.N) (k : Fin 2048) (j : Fin 1024) (d : Fin 6144) (h : d.val = 1024 * t.val + j.val) :
    iblk m c 1 t (ix2 k j) = m ((c : Thread nD τ).loc main_arg1) (ix2 k d) := by
  blk_simp [iblk]
  rw [V_main_arg1]
  congr 1
  blk_ext [e1]
theorem blk2 (t : Fin cfg0.N) (j : Fin 1024) (d : Fin 6144) (h : d.val = 1024 * t.val + j.val) :
    iblk m c 2 t (ix2 0 j) = m ((c : Thread nD τ).loc main_arg2) (ix1 d) := by
  blk_simp [iblk]
  rw [V_b]
  have : (win0_2.blk t).view.emb (ix2 0 j) = (ix2 0 d : S1x6144.Idx) := by blk_ext [e2]
  rw [this]
  pointwise

theorem final (hc : ∀ y, ∃ r : ℝ, m ((c : Thread nD τ).loc main_arg0) y = (r : EReal)) (hw : ∀ y, ∃ r : ℝ, m ((c : Thread nD τ).loc main_arg1) y = (r : EReal)) :
    (dats m 0 c).arrAt 3 cfg0.N = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have ht := points t
  obtain ⟨i, j, rfl⟩ : ∃ (i : Fin 16) (j : Fin 1024), y = ix2 i j := ⟨y 0, y 1, eq_ix2 y⟩
  have he : ((View.whole main_v1).slice (win0_3.rect t)).emb (ix2 i j) = ix2 i (⟨1024 * t.val + j.val, by omega⟩ : Fin 6144) := by blk_ext [e3]
  rw [he]
  exact pay_apply _ _ _ hc hw i j _ (fun k => blk0 m c t i k) (fun k => blk1 m c t k j _ rfl) (blk2 m c t j _ rfl)
end Cert.ModKernelIdeal.ModValue

namespace Cert.ModReferenceIdeal.ModValue
open Cert.ModReferenceIdeal Cert.ModReferenceIdeal.Gen Cert.ModReferenceIdeal.Value Cert.ModValue

/-- The reference's term is the same function of its arguments. -/
theorem result_eq (a0 : FVec Ideal S16x2048 .f32) (a1 : FVec Ideal S2048x6144 .f32) (a2 : FVec Ideal S6144 .f32) :
    (addf (Host.dotGeneral dot_S16x2048_S2048x6144_S16x6144_1_0_0_1_n_n none (mulf a0 (Host.divf (broadcastInDim S16x2048 ![] bcast_S_S16x2048 (constant S_ .f32 0x3F800000#32)) (addf (broadcastInDim S16x2048 ![] bcast_S_S16x2048 (constant S_ .f32 0x3F800000#32)) (Host.exp (Host.negf a0))))) a1) (broadcastInDim S16x6144 ![0, 1] bcast_S1x6144_S16x6144_0_1 (broadcastInDim S1x6144 ![1] bcast_S6144_S1x6144_1 a2)) : FVec Ideal S16x6144 .f32) = result a0 a1 a2 := by
  funext y
  obtain ⟨r, d, rfl⟩ : ∃ (r : Fin 16) (d : Fin 6144), y = ix2 r d := ⟨y 0, y 1, eq_ix2 y⟩
  pointwise
  rfl
end Cert.ModReferenceIdeal.ModValue

/-! ## The claims -/

namespace Cert.Proof.ModClaims

theorem pre_facts : Cert.Pre_mod_finite.Facts := ⟨by decide, by decide⟩

theorem frame_p : Cert.quiescent_ModKernel := fun m ρ _ => Cert.ModKernel.Gen.frame m ρ
theorem frame_pi : Cert.quiescent_ModKernelIdeal := fun m ρ _ => Cert.ModKernelIdeal.Gen.frame m ρ
theorem frame_pi_pre : Cert.quiescent_ModKernelIdeal_pre_mod_finite (hPre_mod_finite := pre_facts) := fun m ρ _ => Cert.ModKernelIdeal.Gen.frame m ρ
theorem frame_ri : Cert.quiescent_ModReferenceIdeal := fun m ρ _ =>
  (θ_run Cert.ModReferenceIdeal.defs _ _).mono (fun r h => ⟨fun c => (h c).2,
      Idealize.ShloMosaic.sem_eq_zero_of_no_sems (by decide) r.2⟩)
    (Cert.ModReferenceIdeal.Value.run (F := Ideal) m ρ)
theorem frame_ri_pre : Cert.quiescent_ModReferenceIdeal_pre_mod_finite (hPre_mod_finite := pre_facts) := fun m ρ _ => frame_ri m ρ (by trivial)
theorem preserves : Cert.preserves_ModKernel_ModKernelIdeal := trivial

/-- Both runs end with the modulation: the kernel's by its blocks, the reference's by its operations. -/
theorem algebraic : Cert.algebraic_ModKernelIdeal_ModReferenceIdeal_pre_mod_finite (hPre_mod_finite := pre_facts) := by
  intro m ρ m' ρ' hpre hagree
  refine ⟨_, Cert.ModKernelIdeal.Value.run_blocks (F := Ideal) m ρ, ?_⟩
  refine (θ_run Cert.ModReferenceIdeal.defs _ _).mono (fun _ h c => ⟨(h c).1.trans ?_, (h c).2⟩)
    (Cert.ModReferenceIdeal.Value.run (F := Ideal) m' ρ')
  rw [(hagree c).1, (hagree c).2.1, (hagree c).2.2]
  exact (Cert.ModReferenceIdeal.ModValue.result_eq _ _ _).trans (Cert.ModKernelIdeal.ModValue.final m c
    (fun y => Cert.ModValue.real_of_finite (congrFun (hpre c).1 y)) (fun y => Cert.ModValue.real_of_finite (congrFun (hpre c).2 y))).symm

end Cert.Proof.ModClaims

end
-- ==== Proof.lean ====
/- The proof of the claims. -/
module

public import proofs.«01_k».proof.Defs
public import proofs.«01_k».proof.Proof.OutValue
public import proofs.«01_k».proof.Proof.InFrame
public import proofs.«01_k».proof.Proof.InValue
public import proofs.«01_k».proof.Proof.PrepClaims
public import proofs.«01_k».proof.Proof.ModValue
public import proofs.«01_k».proof.Proof.Gen.OutKernel
public import proofs.«01_k».proof.Proof.Gen.OutKernelIdeal
public import proofs.«01_k».proof.Proof.Gen.OutReferenceIdeal
public import proofs.«01_k».proof.Proof.Gen.InKernel
public import proofs.«01_k».proof.Proof.Gen.InKernelIdeal
public import proofs.«01_k».proof.Proof.Gen.InReferenceIdeal
public import proofs.«01_k».proof.Proof.Gen.PrepKernel
public import proofs.«01_k».proof.Proof.Gen.PrepKernel.Frame
public import proofs.«01_k».proof.Proof.Gen.PrepKernelIdeal
public import proofs.«01_k».proof.Proof.Gen.PrepKernelIdeal.Value
public import proofs.«01_k».proof.Proof.Gen.PrepReferenceIdeal
public import proofs.«01_k».proof.Proof.Gen.PrepReferenceIdeal.Run
public import proofs.«01_k».proof.Proof.Gen.ModKernel
public import proofs.«01_k».proof.Proof.Gen.ModKernel.Frame
public import proofs.«01_k».proof.Proof.Gen.ModKernelIdeal
public import proofs.«01_k».proof.Proof.Gen.ModKernelIdeal.Value
public import proofs.«01_k».proof.Proof.Gen.ModReferenceIdeal
public import proofs.«01_k».proof.Proof.Gen.ModReferenceIdeal.Run

@[expose] public section

noncomputable section

namespace Cert.Proof

theorem claim : Cert.Claim :=
  ⟨Cert.OutKernel.Gen.facts, Cert.OutKernelIdeal.Gen.facts, Cert.OutReferenceIdeal.Gen.facts,
    Cert.InKernel.Gen.facts, Cert.InKernelIdeal.Gen.facts, Cert.InReferenceIdeal.Gen.facts,
    Cert.PrepKernel.Gen.facts, Cert.PrepKernelIdeal.Gen.facts, Cert.PrepReferenceIdeal.Gen.facts,
    Cert.ModKernel.Gen.facts, Cert.ModKernelIdeal.Gen.facts, Cert.ModReferenceIdeal.Gen.facts, ModClaims.pre_facts,
    OutClaims.frame_p, OutClaims.frame_pi, OutClaims.frame_ri,
    fun m ρ _ => Cert.InKernel.Run.frame m ρ, InClaims.frame_pi, InClaims.frame_ri,
    PrepClaims.frame_p, PrepClaims.frame_pi, PrepClaims.frame_ri,
    ModClaims.frame_p, ModClaims.frame_pi, ModClaims.frame_pi_pre, ModClaims.frame_ri, ModClaims.frame_ri_pre,
    OutClaims.preserves, OutClaims.algebraic, InClaims.preserves, InClaims.algebraic, PrepClaims.preserves, PrepClaims.algebraic,
    ModClaims.preserves, ModClaims.algebraic⟩

end Cert.Proof

end
